-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x8192x1024 : Shape := ⟨3, ![2, 8192, 1024]⟩
abbrev S1024x1024 : Shape := ⟨2, ![1024, 1024]⟩
abbrev S256x1024 : Shape := ⟨2, ![256, 1024]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S2x8192x1024 : S_.BroadcastsInDim S2x8192x1024 (![] : Fin 0 → Fin S2x8192x1024.rank)
  bcast_S_S256x1024 : S_.BroadcastsInDim S256x1024 (![] : Fin 0 → Fin S256x1024.rank)
  bcast_S_S1x256 : S_.BroadcastsInDim S1x256 (![] : Fin 0 → Fin S1x256.rank)
  bcast_S_S1 : S_.BroadcastsInDim S1 (![] : Fin 0 → Fin S1.rank)

variable [Facts]

def fn {F : FTy → Type} [FloatOps F] (main_arg0 : FVec F S2x8192x1024 .f32) (main_arg1 : FVec F S1024x1024 .f32) (main_arg2 : FVec F S1024x1024 .f32) (main_arg3 : FVec F S1024x1024 .f32) (main_arg4 : FVec F S1024x1024 .f32) (main_arg5 : FVec F S256x1024 .f32) (main_arg6 : FVec F S256 .f32) (main_arg7 : FVec F S1x256 .f32) (main_arg8 : FVec F S1 .f32) : IVec S2x8192x1024 1 × IVec S256x1024 1 × IVec S1x256 1 × IVec S1 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_v3 : FVec F S256x1024 .f32 := Host.absf main_arg5
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S1x256 .f32 := Host.absf main_arg7
  let main_cst_1 : FVec F S_ .f32 := constant S_ .f32 0x7F800000#32
  let main_v7 : FVec F S1x256 .f32 := broadcastInDim S1x256 ![] bcast_S_S1x256 main_cst_1
  let main_v8 : IVec S1x256 1 := cmpf .olt main_v6 main_v7
  let main_v9 : FVec F S1 .f32 := Host.absf main_arg8
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  (main_v2, main_v5, main_v8, main_v11)
-- ==== Kernel.lean ====
abbrev S2x8192x1024 : Shape := ⟨3, ![2, 8192, 1024]⟩
abbrev S1024x1024 : Shape := ⟨2, ![1024, 1024]⟩
abbrev S256x1024 : Shape := ⟨2, ![256, 1024]⟩
abbrev S256 : Shape := ⟨1, ![256]⟩
abbrev S1x256 : Shape := ⟨2, ![1, 256]⟩
abbrev S1 : Shape := ⟨1, ![1]⟩
abbrev S2x512x1024 : Shape := ⟨3, ![2, 512, 1024]⟩
abbrev S2x512x128 : Shape := ⟨3, ![2, 512, 128]⟩
abbrev S1x1024x1024 : Shape := ⟨3, ![1, 1024, 1024]⟩
abbrev S1x64x1024 : Shape := ⟨3, ![1, 64, 1024]⟩
abbrev S1x64x128 : Shape := ⟨3, ![1, 64, 128]⟩
abbrev S64x16x1024 : Shape := ⟨3, ![64, 16, 1024]⟩
abbrev S64x1024 : Shape := ⟨2, ![64, 1024]⟩
abbrev S64x256 : Shape := ⟨2, ![64, 256]⟩
abbrev S64 : Shape := ⟨1, ![64]⟩
abbrev S64x1 : Shape := ⟨2, ![64, 1]⟩
abbrev S64x128 : Shape := ⟨2, ![64, 128]⟩
abbrev S1x512x128 : Shape := ⟨3, ![1, 512, 128]⟩
abbrev S1x512x1024 : Shape := ⟨3, ![1, 512, 1024]⟩
abbrev S512x128 : Shape := ⟨2, ![512, 128]⟩
abbrev S512x1 : Shape := ⟨2, ![512, 1]⟩
abbrev S128x512 : Shape := ⟨2, ![128, 512]⟩
abbrev S1x512 : Shape := ⟨2, ![1, 512]⟩
abbrev S512x512 : Shape := ⟨2, ![512, 512]⟩
abbrev S512 : Shape := ⟨1, ![512]⟩
abbrev S64x512 : Shape := ⟨2, ![64, 512]⟩
abbrev S512x1024 : Shape := ⟨2, ![512, 1024]⟩
abbrev S64x64 : Shape := ⟨2, ![64, 64]⟩
abbrev S512x64 : Shape := ⟨2, ![512, 64]⟩
abbrev S2x512x16x1024 : Shape := ⟨4, ![2, 512, 16, 1024]⟩
abbrev S1x64x16x1024 : Shape := ⟨4, ![1, 64, 16, 1024]⟩
abbrev S64x1x1024 : Shape := ⟨3, ![64, 1, 1024]⟩

abbrev nBuf : Space → Nat
  | .hbm => 15
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S256x1024, .f32⟩
  | .hbm, ⟨6, _⟩ => ⟨S256, .f32⟩
  | .hbm, ⟨7, _⟩ => ⟨S1x256, .f32⟩
  | .hbm, ⟨8, _⟩ => ⟨S1, .f32⟩
  | .hbm, ⟨9, _⟩ => ⟨S1x256, .f32⟩
  | .hbm, ⟨10, _⟩ => ⟨S2x512x1024, .f32⟩
  | .hbm, ⟨11, _⟩ => ⟨S2x512x128, .f32⟩
  | .hbm, ⟨12, _⟩ => ⟨S2x512x1024, .f32⟩
  | .hbm, ⟨13, _⟩ => ⟨S2x512x16x1024, .f32⟩
  | .hbm, ⟨14, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S256x1024, .f32⟩
  | .local _ .vmem, ⟨3, _⟩ => ⟨S1x256, .f32⟩
  | .local _ .vmem, ⟨4, _⟩ => ⟨S1x256, .f32⟩
  | .local _ .vmem, ⟨5, _⟩ => ⟨S1x64x1024, .f32⟩
  | .local _ .vmem, ⟨6, _⟩ => ⟨S1x64x1024, .f32⟩
  | .local _ .vmem, ⟨7, _⟩ => ⟨S1x64x128, .f32⟩
  | .local _ .vmem, ⟨8, _⟩ => ⟨S1x64x128, .f32⟩
  | .local _ .vmem, ⟨9, _⟩ => ⟨S1x512x128, .f32⟩
  | .local _ .vmem, ⟨10, _⟩ => ⟨S1x512x128, .f32⟩
  | .local _ .vmem, ⟨11, _⟩ => ⟨S1x512x1024, .f32⟩
  | .local _ .vmem, ⟨12, _⟩ => ⟨S1x512x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x64x1024, .f32⟩
  | .local _ .vmem, ⟨20, _⟩ => ⟨S1x64x1024, .f32⟩
  | .local _ .vmem, ⟨21, _⟩ => ⟨S1x64x16x1024, .f32⟩
  | .local _ .vmem, ⟨22, _⟩ => ⟨S1x64x16x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![2, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x64x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x16x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]
-- ==== ReferenceIdeal.lean ====
abbrev S2x8192x1024 : Shape := ⟨3, ![2, 8192, 1024]⟩
abbrev S1024x1024 : Shape := ⟨2, ![1024, 1024]⟩
abbrev S256x1024 : Shape := ⟨2, ![256, 1024]⟩
abbrev S256 : Shape := ⟨1, ![256]⟩
abbrev S1x256 : Shape := ⟨2, ![1, 256]⟩
abbrev S1 : Shape := ⟨1, ![1]⟩
abbrev S2x512x16x1024 : Shape := ⟨4, ![2, 512, 16, 1024]⟩
abbrev S_ : Shape := ⟨0, ![]⟩
abbrev S2x512x1024 : Shape := ⟨3, ![2, 512, 1024]⟩
abbrev S1024x256 : Shape := ⟨2, ![1024, 256]⟩
abbrev S2x512x256 : Shape := ⟨3, ![2, 512, 256]⟩
abbrev S1x1x256 : Shape := ⟨3, ![1, 1, 256]⟩
abbrev S256x1 : Shape := ⟨2, ![256, 1]⟩
abbrev S2x512x1 : Shape := ⟨3, ![2, 512, 1]⟩
abbrev S1x1x1 : Shape := ⟨3, ![1, 1, 1]⟩
abbrev S2x512 : Shape := ⟨2, ![2, 512]⟩
abbrev S2 : Shape := ⟨1, ![2]⟩
abbrev S2x1 : Shape := ⟨2, ![2, 1]⟩
abbrev S2x64 : Shape := ⟨2, ![2, 64]⟩
abbrev S2x64x1 : Shape := ⟨3, ![2, 64, 1]⟩
abbrev S2x64x1024 : Shape := ⟨3, ![2, 64, 1024]⟩
abbrev S2x64x16x64 : Shape := ⟨4, ![2, 64, 16, 64]⟩
abbrev S2x16x64x64 : Shape := ⟨4, ![2, 16, 64, 64]⟩
abbrev S2x16x64 : Shape := ⟨3, ![2, 16, 64]⟩
abbrev S2x16x64x1 : Shape := ⟨4, ![2, 16, 64, 1]⟩
abbrev S16 : Shape := ⟨1, ![16]⟩
abbrev S1x1x16 : Shape := ⟨3, ![1, 1, 16]⟩
abbrev S2x64x16 : Shape := ⟨3, ![2, 64, 16]⟩
abbrev S2x64x1x1024 : Shape := ⟨4, ![2, 64, 1, 1024]⟩
abbrev S2x64x16x1024 : Shape := ⟨4, ![2, 64, 16, 1024]⟩
abbrev S2x1x1 : Shape := ⟨3, ![2, 1, 1]⟩
abbrev S2x64x16x1 : Shape := ⟨4, ![2, 64, 16, 1]⟩
abbrev S2x64x16x2 : Shape := ⟨4, ![2, 64, 16, 2]⟩

abbrev nBuf : Space → Nat
  | .hbm => 138
  | .vmem => 0
  | .smem => 0
  | _ => 0

abbrev hbmTy0_0 (i : Nat) : BufTy := match i % 128 with
  | 0 => ⟨S2x8192x1024, .f32⟩
  | 1 => ⟨S1024x1024, .f32⟩
  | 2 => ⟨S1024x1024, .f32⟩
  | 3 => ⟨S1024x1024, .f32⟩
  | 4 => ⟨S1024x1024, .f32⟩
  | 5 => ⟨S256x1024, .f32⟩
  | 6 => ⟨S256, .f32⟩
  | 7 => ⟨S1x256, .f32⟩
  | 8 => ⟨S1, .f32⟩
  | 9 => ⟨S2x512x16x1024, .f32⟩
  | 10 => ⟨S_, .f32⟩
  | 11 => ⟨S2x512x1024, .f32⟩
  | 12 => ⟨S_, .f32⟩
  | 13 => ⟨S2x512x1024, .f32⟩
  | 14 => ⟨S2x512x1024, .f32⟩
  | 15 => ⟨S1024x256, .f32⟩
  | 16 => ⟨S2x512x256, .f32⟩
  | 17 => ⟨S1x1x256, .f32⟩
  | 18 => ⟨S2x512x256, .f32⟩
  | 19 => ⟨S2x512x256, .f32⟩
  | 20 => ⟨S_, .f32⟩
  | 21 => ⟨S2x512x256, .f32⟩
  | 22 => ⟨S2x512x256, .f32⟩
  | 23 => ⟨S256x1, .f32⟩
  | 24 => ⟨S2x512x1, .f32⟩
  | 25 => ⟨S1x1x1, .f32⟩
  | 26 => ⟨S2x512x1, .f32⟩
  | 27 => ⟨S2x512x1, .f32⟩
  | 28 => ⟨S2x512, .f32⟩
  | 29 => ⟨S_, .f32⟩
  | 30 => ⟨S2, .f32⟩
  | 31 => ⟨S_, .f32⟩
  | 32 => ⟨S2, .f32⟩
  | 33 => ⟨S2, .f32⟩
  | 34 => ⟨S2x1, .f32⟩
  | 35 => ⟨S2x512, .f32⟩
  | 36 => ⟨S2x512, .f32⟩
  | 37 => ⟨S2x512, .f32⟩
  | 38 => ⟨S_, .f32⟩
  | 39 => ⟨S2, .f32⟩
  | 40 => ⟨S2x1, .f32⟩
  | 41 => ⟨S2x512, .f32⟩
  | 42 => ⟨S2x512, .f32⟩
  | 43 => ⟨S2x64, .f32⟩
  | 44 => ⟨S2x64, .i32⟩
  | 45 => ⟨S2x64x1, .i32⟩
  | 46 => ⟨S_, .i32⟩
  | 47 => ⟨S2x64x1, .i32⟩
  | 48 => ⟨S2x64x1, .i1⟩
  | 49 => ⟨S_, .i32⟩
  | 50 => ⟨S2x64x1, .i32⟩
  | 51 => ⟨S2x64x1, .i32⟩
  | 52 => ⟨S2x64x1, .i32⟩
  | 53 => ⟨S1, .i32⟩
  | 54 => ⟨S_, .i32⟩
  | 55 => ⟨S2x64x1, .i32⟩
  | 56 => ⟨S2x64x1, .i1⟩
  | 57 => ⟨S1x1x1, .i32⟩
  | 58 => ⟨S2x64x1, .i32⟩
  | 59 => ⟨S2x64x1, .i1⟩
  | 60 => ⟨S2x64x1, .i1⟩
  | 61 => ⟨S_, .i1⟩
  | 62 => ⟨S2x64, .i1⟩
  | 63 => ⟨S2x64x1024, .f32⟩
  | 64 => ⟨S2x64x1024, .i1⟩
  | 65 => ⟨S_, .f32⟩
  | 66 => ⟨S2x64x1024, .f32⟩
  | 67 => ⟨S2x64x1024, .f32⟩
  | 68 => ⟨S1024x1024, .f32⟩
  | 69 => ⟨S2x64x1024, .f32⟩
  | 70 => ⟨S2x64x16x64, .f32⟩
  | 71 => ⟨S2x16x64x64, .f32⟩
  | 72 => ⟨S1024x1024, .f32⟩
  | 73 => ⟨S2x64x1024, .f32⟩
  | 74 => ⟨S2x64x16x64, .f32⟩
  | 75 => ⟨S2x16x64x64, .f32⟩
  | 76 => ⟨S1024x1024, .f32⟩
  | 77 => ⟨S2x64x1024, .f32⟩
  | 78 => ⟨S2x64x16x64, .f32⟩
  | 79 => ⟨S2x16x64x64, .f32⟩
  | 80 => ⟨S2x16x64x64, .f32⟩
  | 81 => ⟨S2x16x64x64, .f32⟩
  | 82 => ⟨S_, .f32⟩
  | 83 => ⟨S2x16x64x64, .f32⟩
  | 84 => ⟨S2x16x64x64, .f32⟩
  | 85 => ⟨S_, .f32⟩
  | 86 => ⟨S2x16x64, .f32⟩
  | 87 => ⟨S_, .f32⟩
  | 88 => ⟨S2x16x64, .f32⟩
  | 89 => ⟨S2x16x64, .f32⟩
  | 90 => ⟨S2x16x64x1, .f32⟩
  | 91 => ⟨S2x16x64x64, .f32⟩
  | 92 => ⟨S2x16x64x64, .f32⟩
  | 93 => ⟨S2x16x64x64, .f32⟩
  | 94 => ⟨S_, .f32⟩
  | 95 => ⟨S2x16x64, .f32⟩
  | 96 => ⟨S2x16x64x1, .f32⟩
  | 97 => ⟨S2x16x64x64, .f32⟩
  | 98 => ⟨S2x16x64x64, .f32⟩
  | 99 => ⟨S2x16x64x64, .f32⟩
  | 100 => ⟨S2x64x16x64, .f32⟩
  | 101 => ⟨S2x64x1024, .f32⟩
  | 102 => ⟨S1024x1024, .f32⟩
  | 103 => ⟨S2x64x1024, .f32⟩
  | 104 => ⟨S2x64x1, .i32⟩
  | 105 => ⟨S_, .i32⟩
  | 106 => ⟨S2x64x1, .i32⟩
  | 107 => ⟨S2x64x1, .i32⟩
  | 108 => ⟨S16, .i32⟩
  | 109 => ⟨S1x1x16, .i32⟩
  | 110 => ⟨S2x64x16, .i32⟩
  | 111 => ⟨S2x64x16, .i32⟩
  | 112 => ⟨S2x64x16, .i32⟩
  | 113 => ⟨S2x64x1x1024, .f32⟩
  | 114 => ⟨S2x64x16x1024, .f32⟩
  | 115 => ⟨S2, .i32⟩
  | 116 => ⟨S2x1x1, .i32⟩
  | 117 => ⟨S_, .f32⟩
  | 118 => ⟨S2x8192x1024, .f32⟩
  | 119 => ⟨S_, .i32⟩
  | 120 => ⟨S2x1x1, .i32⟩
  | 121 => ⟨S2x1x1, .i1⟩
  | 122 => ⟨S_, .i32⟩
  | 123 => ⟨S2x1x1, .i32⟩
  | 124 => ⟨S2x1x1, .i32⟩
  | 125 => ⟨S2x1x1, .i32⟩
  | 126 => ⟨S_, .i32⟩
  | 127 => ⟨S2x64x16, .i32⟩
  | _ => ⟨S2x8192x1024, .f32⟩

abbrev hbmTy0_1 (i : Nat) : BufTy := match i % 128 with
  | 0 => ⟨S2x64x16, .i1⟩
  | 1 => ⟨S_, .i32⟩
  | 2 => ⟨S2x64x16, .i32⟩
  | 3 => ⟨S2x64x16, .i32⟩
  | 4 => ⟨S2x64x16, .i32⟩
  | 5 => ⟨S2x64x16, .i32⟩
  | 6 => ⟨S2x64x16x1, .i32⟩
  | 7 => ⟨S2x64x16x1, .i32⟩
  | 8 => ⟨S2x64x16x2, .i32⟩
  | 9 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_cst : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_values : Ref sig .tc := ⟨.hbm, 43, rfl⟩
abbrev main_indices : Ref sig .tc := ⟨.hbm, 44, rfl⟩
abbrev main_v27 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_c_2 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_c_3 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_4 : Ref sig .tc := ⟨.hbm, 82, rfl⟩
abbrev main_v43 : Ref sig .tc := ⟨.hbm, 83, rfl⟩
abbrev main_v44 : Ref sig .tc := ⟨.hbm, 84, rfl⟩
abbrev main_cst_5 : Ref sig .tc := ⟨.hbm, 85, rfl⟩
abbrev main_v45 : Ref sig .tc := ⟨.hbm, 86, rfl⟩
abbrev main_cst_6 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_7 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_c : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_8 : Ref sig .tc := ⟨.hbm, 117, rfl⟩
abbrev main_v73 : Ref sig .tc := ⟨.hbm, 118, rfl⟩
abbrev main_c_9 : Ref sig .tc := ⟨.hbm, 119, rfl⟩
abbrev main_v74 : Ref sig .tc := ⟨.hbm, 120, rfl⟩
abbrev main_v75 : Ref sig .tc := ⟨.hbm, 121, rfl⟩
abbrev main_c_10 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_c_11 : Ref sig .tc := ⟨.hbm, 126, rfl⟩
abbrev main_v79 : Ref sig .tc := ⟨.hbm, 127, rfl⟩
abbrev main_v80 : Ref sig .tc := ⟨.hbm, 128, rfl⟩
abbrev main_c_12 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩

abbrev nD : Nat := 1
abbrev τ : Topo := Topo.v7x

variable {F : FTy → Type} [FloatOps F]
-- ==== Proof.Consts.lean ====
/- The values of the programs' float literals on the extended reals. -/
module

public import Idealize.ShloMosaic.PureOps.Ideal
public import Idealize.ShloMosaic.Lib.IdealHost

@[expose] public section

namespace Cert.Consts

open Idealize.ShloMosaic

/-- One sixteenth. -/
theorem lit_sixteenth : Ideal.ofBits .f32 0x3D800000#32 = ((1 / 16 : ℝ) : EReal) := by
  simp [Ideal.ofBits, Ideal.ieee, -EReal.coe_mul]; norm_num

/-- One eighth. -/
theorem lit_eighth : Ideal.ofBits .f32 0x3E000000#32 = ((1 / 8 : ℝ) : EReal) := by
  simp [Ideal.ofBits, Ideal.ieee, -EReal.coe_mul]; norm_num

/-- Sixteen. -/
theorem lit_sixteen : Ideal.ofBits .f32 0x41800000#32 = ((16 : ℝ) : EReal) := by
  simp [Ideal.ofBits, Ideal.ieee, -EReal.coe_mul]; norm_num

/-- Eight. -/
theorem lit_eight : Ideal.ofBits .f32 0x41000000#32 = ((8 : ℝ) : EReal) := by
  simp [Ideal.ofBits, Ideal.ieee, -EReal.coe_mul]; norm_num

/-- Sixty-four. -/
theorem lit_sixtyfour : Ideal.ofBits .f32 0x42800000#32 = ((64 : ℝ) : EReal) := by
  simp [Ideal.ofBits, Ideal.ieee, -EReal.coe_mul]; norm_num

/-- One half. -/
theorem lit_half : Ideal.ofBits .f32 0x3F000000#32 = ((1 / 2 : ℝ) : EReal) := by
  simp [Ideal.ofBits, Ideal.ieee, -EReal.coe_mul]; norm_num

/-- Minus infinity. -/
theorem lit_bot : Ideal.ofBits .f32 0xFF800000#32 = ⊥ := by
  simp [Ideal.ofBits, Ideal.ieee]

/-- Plus infinity. -/
theorem lit_top : Ideal.ofBits .f32 0x7F800000#32 = ⊤ := by
  simp [Ideal.ofBits, Ideal.ieee]

end Cert.Consts
-- ==== Proof.Spec.lean ====
/- The mathematics both programs compute, on the extended reals and with no array in sight: a group's mean, a group's
   score, multi-head attention over the 64 selected groups. The arrays are read at plain indices. -/
module

public import Idealize.ShloMosaic.PureOps.Ideal
public import Idealize.ShloMosaic.Lib.IdealHost
public import Idealize.ShloMosaic.Lib.Pointwise

@[expose] public section

noncomputable section

namespace Cert.Spec

open Idealize.ShloMosaic

/-- The `s`-th token of group `n`. -/
def token (n : Fin 512) (s : Fin 16) : Fin 8192 := ⟨n.val * 16 + s.val, by omega⟩

/-- The mean of group `n` of batch `b`, at feature `d`: the sum of its 16 tokens times 1/16. -/
def mean (x : Fin 2 → Fin 8192 → Fin 1024 → EReal) (b : Fin 2) (n : Fin 512) (d : Fin 1024) : EReal :=
  (∑ s : Fin 16, x b (token n s) d) * ((1 / 16 : ℝ) : EReal)

/-- The score of a group with features `g` before the last bias and the softmax: one hidden layer of 256 rectified
    units, then one linear output. -/
def score (w1 : Fin 256 → Fin 1024 → EReal) (b1 w2 : Fin 256 → EReal) (g : Fin 1024 → EReal) : EReal :=
  ∑ e : Fin 256, max ((∑ d : Fin 1024, g d * w1 e d) + b1 e) 0 * w2 e

/-- A linear map's output `e` on the features `g` (the weight matrix transposed, as it is stored). -/
def lin (w : Fin 1024 → Fin 1024 → EReal) (g : Fin 1024 → EReal) (e : Fin 1024) : EReal :=
  ∑ d : Fin 1024, g d * w e d

/-- Feature `d` of head `h`, among the 1024. -/
def feat (h : Fin 16) (d : Fin 64) : Fin 1024 := ⟨64 * h.val + d.val, by omega⟩

/-- The attention logit of query row `q` against key row `k`, in head `h`. -/
def logit (wq wk : Fin 1024 → Fin 1024 → EReal) (rows : Fin 64 → Fin 1024 → EReal) (h : Fin 16) (q k : Fin 64) : EReal :=
  (∑ d : Fin 64, lin wq (rows q) (feat h d) * lin wk (rows k) (feat h d)) * ((1 / 8 : ℝ) : EReal)

/-- The unnormalized attention weight: the exponential of the logit less the row's largest. -/
def weight (wq wk : Fin 1024 → Fin 1024 → EReal) (rows : Fin 64 → Fin 1024 → EReal) (h : Fin 16) (q k : Fin 64) : EReal :=
  Ideal.exp (logit wq wk rows h q k - Finset.univ.sup fun k' => logit wq wk rows h q k')

/-- Head `h` of the attention at query row `q`, feature `d`. -/
def head (wq wk wv : Fin 1024 → Fin 1024 → EReal) (rows : Fin 64 → Fin 1024 → EReal) (h : Fin 16) (q : Fin 64)
    (d : Fin 64) : EReal :=
  ∑ k : Fin 64, Ideal.div (weight wq wk rows h q k) (∑ k' : Fin 64, weight wq wk rows h q k') *
    lin wv (rows k) (feat h d)

/-- The head a feature belongs to. -/
def headOf (d : Fin 1024) : Fin 16 := ⟨d.val / 64, by omega⟩
/-- The place of a feature in its head. -/
def inHead (d : Fin 1024) : Fin 64 := ⟨d.val % 64, by omega⟩

/-- The heads side by side at query row `q`. -/
def heads (wq wk wv : Fin 1024 → Fin 1024 → EReal) (rows : Fin 64 → Fin 1024 → EReal) (q : Fin 64) (d : Fin 1024) :
    EReal :=
  head wq wk wv rows (headOf d) q (inHead d)

/-- Multi-head attention over the 64 rows: the heads side by side, then the output projection. -/
def att (wq wk wv wo : Fin 1024 → Fin 1024 → EReal) (rows : Fin 64 → Fin 1024 → EReal) (q : Fin 64) (e : Fin 1024) :
    EReal :=
  lin wo (heads wq wk wv rows q) e

/-- Attention treats its rows alike: permuting the rows permutes the outputs. -/
theorem att_perm (wq wk wv wo : Fin 1024 → Fin 1024 → EReal) (rows : Fin 64 → Fin 1024 → EReal) (π : Equiv.Perm (Fin 64))
    (q : Fin 64) (e : Fin 1024) :
    att wq wk wv wo (fun k => rows (π k)) q e = att wq wk wv wo rows (π q) e := by
  have hl : ∀ h q k, logit wq wk (fun k => rows (π k)) h q k = logit wq wk rows h (π q) (π k) := fun _ _ _ => rfl
  have hw : ∀ h q k, weight wq wk (fun k => rows (π k)) h q k = weight wq wk rows h (π q) (π k) := fun h q k => by
    unfold weight
    simp only [hl]
    congr 2
    refine le_antisymm (Finset.sup_le fun k _ => ?_) (Finset.sup_le fun k _ => ?_)
    · exact Finset.le_sup (f := fun k' => logit wq wk rows h (π q) k') (Finset.mem_univ (π k))
    · have := Finset.le_sup (f := fun k' => logit wq wk rows h (π q) (π k')) (Finset.mem_univ (π.symm k))
      simpa using this
  have hh : ∀ h q d, head wq wk wv (fun k => rows (π k)) h q d = head wq wk wv rows h (π q) d := fun h q d => by
    unfold head
    simp only [hw]
    rw [Equiv.sum_comp π (fun k' => weight wq wk rows h (π q) k')]
    exact Equiv.sum_comp π (fun k => Ideal.div (weight wq wk rows h (π q) k)
      (∑ k' : Fin 64, weight wq wk rows h (π q) k') * lin wv (rows k) (feat h d))
  unfold att
  congr 1
  funext d
  exact hh _ _ _

end Cert.Spec

end
-- ==== Proof.Body.lean ====
/- The attention kernel's body, read at an index: the printed body spells each of the 16 heads out; here they are one
   function of the head, and the body's result is the attention of `Cert.Spec` over the rows its selection matrix picks. -/
module

public import proofs.«01_k».proof.Proof.Gen.KernelIdeal.Frame
public import proofs.«01_k».proof.Proof.Spec
public import proofs.«01_k».proof.Proof.Consts
public import Idealize.ShloMosaic.Lib.Pipeline.Value
public import Idealize.ShloMosaic.Lib.Pointwise

@[expose] public section

set_option maxRecDepth 16384

noncomputable section

namespace Cert.KernelIdeal.Body

open Idealize.ShloMosaic Cert.KernelIdeal Cert.KernelIdeal.Gen Cert.Spec

/-- The 64 columns from `64 h` on lie inside the 1024. -/
theorem slices_head (h : Fin 16) : S64x1024.Slices ![0, 64 * h.val] S64x64 := by
  refine ⟨rfl, fun a => ?_⟩
  have hh := h.isLt
  fin_cases a
  · show 0 + 64 ≤ 64
    omega
  · show 64 * h.val + 64 ≤ 1024
    omega

/-- Head `h`'s 64 columns of an array of 1024. -/
def cols (x : FVec Ideal S64x1024 .f32) (h : Fin 16) : FVec Ideal S64x64 .f32 :=
  extractStridedSlice S64x64 ![0, 64 * h.val] x (slices_head h)

/-- One head of the attention, from the query, key and value arrays. -/
def headBlock (q k v : FVec Ideal S64x1024 .f32) (h : Fin 16) : FVec Ideal S64x64 .f32 :=
  k1_pay12 (cols v h) (truncf .bf16 (cols q h) bitsLt_bf16_f32) (truncf .bf16 (cols k h) bitsLt_bf16_f32)
    (constant S64x64 .f32 0x00000000#32)

section Heads

variable (m : FVec Ideal S64x512 .f32) (x1 : Vec Ideal S1x512x1024 .f32) (wq wk wv : Vec Ideal S1024x1024 .f32)
variable (q k v : FVec Ideal S64x1024 .f32)

/-! Each head of the printed body is `headBlock` at its number. -/

/-- Head 0 of the body. -/
theorem head_0 : k1_pay8 m x1 wq wk wv = headBlock (k1_pay5 m x1 wq) (k1_pay6 m x1 wk) (k1_pay7 m x1 wv) 0 := rfl
/-- Head 1 of the body. -/
theorem head_1 : k1_pay12 (k1_pay9 m x1 wv) (k1_pay10 m x1 wq) (k1_pay11 m x1 wk) (constant S64x64 .f32 0x00000000#32)
    = headBlock (k1_pay5 m x1 wq) (k1_pay6 m x1 wk) (k1_pay7 m x1 wv) 1 := rfl
/-- Head 2 of the body. -/
theorem head_2 : k1_pay13 q k v = headBlock q k v 2 := rfl
/-- Head 3 of the body. -/
theorem head_3 : k1_pay16 (k1_pay14 v) (k1_pay15 q k) = headBlock q k v 3 := rfl
/-- Head 4 of the body. -/
theorem head_4 : k1_pay17 q k v = headBlock q k v 4 := rfl
/-- Head 5 of the body. -/
theorem head_5 : k1_pay18 q k v = headBlock q k v 5 := rfl
/-- Head 6 of the body. -/
theorem head_6 : k1_pay20 k v (k1_pay19 q) = headBlock q k v 6 := rfl
/-- Head 7 of the body. -/
theorem head_7 : k1_pay21 q k v = headBlock q k v 7 := rfl
/-- Head 8 of the body. -/
theorem head_8 : k1_pay24 (k1_pay22 v) (k1_pay23 q k) = headBlock q k v 8 := rfl
/-- Head 9 of the body. -/
theorem head_9 : k1_pay25 q k v = headBlock q k v 9 := rfl
/-- Head 10 of the body. -/
theorem head_10 : k1_pay28 (k1_pay26 v) (k1_pay27 q k) = headBlock q k v 10 := rfl
/-- Head 11 of the body. -/
theorem head_11 : k1_pay29 q k v = headBlock q k v 11 := rfl
/-- Head 12 of the body. -/
theorem head_12 : k1_pay30 q k v = headBlock q k v 12 := rfl
/-- Head 13 of the body. -/
theorem head_13 : k1_pay34 (k1_pay31 v) (k1_pay32 q) (k1_pay33 k) (constant S64x64 .f32 0x00000000#32) = headBlock q k v 13 := rfl
/-- Head 14 of the body. -/
theorem head_14 : k1_pay35 q k v = headBlock q k v 14 := rfl
/-- Head 15 of the body. -/
theorem head_15 : k1_pay1 (k1_pay36 v) (k1_pay37 q k) = headBlock q k v 15 := rfl

end Heads

/-- Sixteen blocks of 64 columns make 1024. -/
theorem concat_heads (f : Fin 16 → (S64x64.Idx → EReal)) : Shape.Concatenates
    ((List.ofFn fun n : Fin 16 => (⟨S64x64, f n⟩ : (s : Shape) × (s.Idx → EReal))).map (·.1)) S64x1024 1 :=
  concatenates_S64x64_S64x64_S64x64_S64x64_S64x64_S64x64_S64x64_S64x64_S64x64_S64x64_S64x64_S64x64_S64x64_S64x64_S64x64_S64x64_S64x1024_d1

/-- The heads side by side. -/
def headRow (q k v : FVec Ideal S64x1024 .f32) : FVec Ideal S64x1024 .f32 :=
  concatenate S64x1024 1 (List.ofFn fun n : Fin 16 => (⟨S64x64, headBlock q k v n⟩ : (s : Shape) × (s.Idx → EReal)))
    (concat_heads _)

/-- The heads side by side, at a column: the column's head, at its place in it. -/
theorem headRow_apply (q k v : FVec Ideal S64x1024 .f32) (r : Fin 64) (d : Fin 1024) :
    headRow q k v (ix2 r d) = headBlock q k v (headOf d) (ix2 r (inHead d)) :=
  concatenate_ofFn_apply (t := S64x1024) (s₁ := S64x64) 1 (headBlock q k v) (concat_heads _) rfl 64 rfl (ix2 r d) (headOf d) rfl
    (ix2 r (inHead d)) rfl (fun b hb => by
      fin_cases b
      · rfl
      · exact absurd rfl hb)

/-- What the attention kernel leaves of its blocks, in the one function of a head. -/
theorem out1_6_eq (x0 : Vec Ideal S1x512x128 .f32) (x1 : Vec Ideal S1x512x1024 .f32) (wq wk wv wo : Vec Ideal S1024x1024 .f32) :
    out1_6 x0 x1 wq wk wv wo = k1_pay2 (k1_pay3 x0)
      (headRow (k1_pay5 (k1_pay3 x0) x1 wq) (k1_pay6 (k1_pay3 x0) x1 wk) (k1_pay7 (k1_pay3 x0) x1 wv)) wo := by
  have hz3 : (![0, 0, 0] : Fin 3 → Nat) = fun _ => 0 := funext fun a => by fin_cases a <;> rfl
  have hz2 : (![0, 0] : Fin 2 → Nat) = fun _ => 0 := funext fun a => by fin_cases a <;> rfl
  unfold out1_6 k1_pay41 k1_pay40 k1_pay39 k1_pay38
  rw [View.canon_unit_zero (S := S1x512x1024) hz3, View.ld_unit_zero (S := S1x512x128) hz3, View.ld_unit_zero (S := S1x512x1024) hz3,
    View.ld_unit_zero (S := S1024x1024) hz2, View.ld_unit_zero (S := S1024x1024) hz2, View.ld_unit_zero (S := S1024x1024) hz2,
    View.ld_unit_zero (S := S1024x1024) hz2]
  rfl

/-- A head of the kernel's body, read at an index, is the head of the attention over rows whose projections are its
    query, key and value arrays. -/
theorem headBlock_apply (wq wk wv : Fin 1024 → Fin 1024 → EReal) (rows : Fin 64 → Fin 1024 → EReal)
    (q k v : FVec Ideal S64x1024 .f32) (hq : ∀ r e, q (ix2 r e) = lin wq (rows r) e)
    (hk : ∀ r e, k (ix2 r e) = lin wk (rows r) e) (hv : ∀ r e, v (ix2 r e) = lin wv (rows r) e) (h : Fin 16) (r d : Fin 64) :
    headBlock q k v h (ix2 r d) = head wq wk wv rows h r d := by
  pointwise [headBlock, cols, k1_pay12]
  rw [Consts.lit_eighth, Consts.lit_bot]
  simp only [hq, hk, hv]
  rfl

section Apply

variable (m : FVec Ideal S64x512 .f32) (x1 : Vec Ideal S1x512x1024 .f32) (w : Vec Ideal S1024x1024 .f32)

/-- The row a selection matrix picks out of the 512 groups. -/
def picked (m : FVec Ideal S64x512 .f32) (x1 : Vec Ideal S1x512x1024 .f32) (q : Fin 64) (d : Fin 1024) : EReal :=
  ∑ n : Fin 512, m (ix2 q n) * x1 (ix3 0 n d)

/-! The three projections, of the rows picked. -/

/-- An entry of the queries. -/
theorem query_apply (r : Fin 64) (e : Fin 1024) :
    k1_pay5 m x1 w (ix2 r e) = lin (fun e d => w (ix2 e d)) (picked m x1 r) e := by
  pointwise [k1_pay5, k1_pay4]
  rfl
/-- An entry of the keys. -/
theorem key_apply (r : Fin 64) (e : Fin 1024) :
    k1_pay6 m x1 w (ix2 r e) = lin (fun e d => w (ix2 e d)) (picked m x1 r) e := by
  pointwise [k1_pay6, k1_pay4]
  rfl
/-- An entry of the values. -/
theorem value_apply (r : Fin 64) (e : Fin 1024) :
    k1_pay7 m x1 w (ix2 r e) = lin (fun e d => w (ix2 e d)) (picked m x1 r) e := by
  pointwise [k1_pay7, k1_pay4]
  rfl

end Apply

/-- The attention kernel's result, read at an index: the attention over the picked rows, each row's output sent back to
    the group its row of the selection matrix marks. -/
theorem out1_6_apply (x0 : Vec Ideal S1x512x128 .f32) (x1 : Vec Ideal S1x512x1024 .f32) (wq wk wv wo : Vec Ideal S1024x1024 .f32)
    (n : Fin 512) (e : Fin 1024) :
    out1_6 x0 x1 wq wk wv wo (ix3 0 n e) = ∑ q : Fin 64, k1_pay3 x0 (ix2 q n) *
      att (fun e d => wq (ix2 e d)) (fun e d => wk (ix2 e d)) (fun e d => wv (ix2 e d)) (fun e d => wo (ix2 e d))
        (picked (k1_pay3 x0) x1) q e := by
  rw [out1_6_eq]
  pointwise [k1_pay2]
  refine Finset.sum_congr rfl fun q _ => congrArg _ (Finset.sum_congr rfl fun d _ => congrArg (· * _) ?_)
  rw [headRow_apply]
  exact headBlock_apply _ _ _ _ _ _ _ (query_apply _ _ _) (key_apply _ _ _) (value_apply _ _ _) _ _ _

/-- The group means the first kernel leaves of its block. -/
theorem out0_4_apply (x0 : Vec Ideal S1x1024x1024 .f32) (w1 : Vec Ideal S256x1024 .f32) (b1 w2 : Vec Ideal S1x256 .f32)
    (r : Fin 64) (d : Fin 1024) :
    out0_4 x0 w1 b1 w2 (ix3 0 r d) = (∑ s : Fin 16, x0 (ix3 0 ⟨r.val * 16 + s.val, by omega⟩ d)) * ((1 / 16 : ℝ) : EReal) := by
  have hz3 : (![0, 0, 0] : Fin 3 → Nat) = fun _ => 0 := funext fun a => by fin_cases a <;> rfl
  unfold out0_4
  rw [View.canon_unit_zero (S := S1x64x1024) hz3, View.ld_unit_zero (S := S1x1024x1024) hz3]
  pointwise [k0_pay2, k0_pay1]
  rw [Consts.lit_sixteenth]

/-- The group scores the first kernel leaves of its block, the same in each of the 128 lanes. -/
theorem out0_5_apply (x0 : Vec Ideal S1x1024x1024 .f32) (w1 : Vec Ideal S256x1024 .f32) (b1 w2 : Vec Ideal S1x256 .f32)
    (r : Fin 64) (l : Fin 128) :
    out0_5 x0 w1 b1 w2 (ix3 0 r l) = score (fun e d => w1 (ix2 e d)) (fun e => b1 (ix2 0 e)) (fun e => w2 (ix2 0 e))
      (fun d => out0_4 x0 w1 b1 w2 (ix3 0 r d)) := by
  have hz3 : (![0, 0, 0] : Fin 3 → Nat) = fun _ => 0 := funext fun a => by fin_cases a <;> rfl
  have hz2 : (![0, 0] : Fin 2 → Nat) = fun _ => 0 := funext fun a => by fin_cases a <;> rfl
  simp only [out0_4_apply]
  unfold out0_5
  rw [View.canon_unit_zero (S := S1x64x128) hz3, View.ld_unit_zero (S := S1x1024x1024) hz3, View.ld_unit_zero (S := S256x1024) hz2,
    View.ld_unit_zero (S := S1x256) hz2, View.ld_unit_zero (S := S1x256) hz2]
  pointwise [k0_pay3, k0_pay1]
  rw [Consts.lit_sixteenth]
  rfl

/-- The last kernel gives each group's output to its 16 tokens. -/
theorem out2_1_apply (x0 : Vec Ideal S1x64x1024 .f32) (r : Fin 64) (s : Fin 16) (d : Fin 1024) :
    out2_1 x0 (ix4 0 r s d) = x0 (ix3 0 r d) := by
  have hz4 : (![0, 0, 0, 0] : Fin 4 → Nat) = fun _ => 0 := funext fun a => by fin_cases a <;> rfl
  have hz3 : (![0, 0, 0] : Fin 3 → Nat) = fun _ => 0 := funext fun a => by fin_cases a <;> rfl
  unfold out2_1
  rw [View.canon_unit_zero (S := S1x64x16x1024) hz4, View.ld_unit_zero (S := S1x64x1024) hz3]
  pointwise [k2_pay1]

end Cert.KernelIdeal.Body

end
-- ==== Proof.RunK.lean ====
/- The run of the kernel's program, read for its result: every buffer that outlives the launch ends holding what the
   three launches and the two host stretches leave (`W5`), in particular the result array. The set-up of the launch is the
   generated frame's. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every fair execution of the kernel's program ends with each lasting buffer at its final contents `W5`, and with every
    semaphore at zero. -/
theorem run_contents : θ_run defs (onTc (τ := τ) (main (F := F))) ⟨m, fun _ => 0, ρ⟩ (fun r =>
      (∀ c : Dev nD, ∀ b : Ref sig .tc, Proc.devRef .tc b ∈ Pipeline.ucRefs τ sig →
        r.2.mem ((c.tc : Thread nD τ).loc b) = W5 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c _ hb, funext fun g => hz g (.inr (no_unscoped g.2))⟩)

/-- The result array ends at its final contents, and no argument array changes. -/
theorem run_result : θ_run defs (onTc (τ := τ) (main (F := F))) ⟨m, fun _ => 0, ρ⟩ (fun r =>
      (∀ c : Dev nD, r.2.mem ((c.tc : Thread nD τ).loc main_v4) = W5 m ρ c (Proc.devRef .tc main_v4)
        ∧ ∀ a ∈ argRefs, Proc.devRef .tc a ∈ Pipeline.ucRefs τ sig →
          r.2.mem ((c.tc : Thread nD τ).loc a) = m ((c.tc : Thread nD τ).loc a))
      ∧ r.2.sem = fun _ => 0) :=
  (θ_run defs _ _).mono (fun _ h => ⟨fun c => ⟨h.1 c _ (mem_uc main_v4 (by decide)),
    fun a ha hu => (h.1 c a hu).trans (W5_args m ρ c a ha)⟩, h.2⟩) (run_contents m ρ)

end Cert.KernelIdeal.Gen

end
-- ==== Proof.Blocks.lean ====
/- The three launches' arrays: each launch writes its output blocks over the whole of its output array, so what the array
   holds after it is read block by block, off the arrays it was entered with. -/
module

public import proofs.«01_k».proof.Proof.Body
public import proofs.«01_k».proof.Proof.RunK

@[expose] public section

set_option maxRecDepth 16384

noncomputable section

namespace Cert.KernelIdeal.Arrays

open Idealize.ShloMosaic Idealize.ShloMosaic.TcCoe Cert.KernelIdeal Cert.KernelIdeal.Gen Cert.KernelIdeal.Body Cert.Spec
open Idealize.ShloMosaic.Pipeline (Dat Cfg Window)

variable (V : (c : Dev nD) → (b : Ref sig .tc) → Buf (Elt Ideal) ((c : Thread nD τ).loc b)) (c : Dev nD)

/-! ## Where each window's block lies

The grid points of the first and last launch are the pairs (batch, block of 64 groups), point `8 b + r`; those of the
attention launch are the batches. -/

/-- Which block of the tokens each point of the first launch takes. -/
theorem index0_0 : ∀ t : Fin grid0.N, win0_0.index t 0 = t.val / 8 ∧ win0_0.index t 1 = t.val % 8 ∧ win0_0.index t 2 = 0 := by
  decide +kernel
/-- Which block of the hidden weights each point of the first launch takes. -/
theorem index0_1 : ∀ t : Fin grid0.N, win0_1.index t 0 = 0 ∧ win0_1.index t 1 = 0 := by
  decide +kernel
/-- Which block of the hidden bias row each point of the first launch takes. -/
theorem index0_2 : ∀ t : Fin grid0.N, win0_2.index t 0 = 0 ∧ win0_2.index t 1 = 0 := by
  decide +kernel
/-- Which block of the output weights each point of the first launch takes. -/
theorem index0_3 : ∀ t : Fin grid0.N, win0_3.index t 0 = 0 ∧ win0_3.index t 1 = 0 := by
  decide +kernel
/-- Which block of the group means each point of the first launch takes. -/
theorem index0_4 : ∀ t : Fin grid0.N, win0_4.index t 0 = t.val / 8 ∧ win0_4.index t 1 = t.val % 8 ∧ win0_4.index t 2 = 0 := by
  decide +kernel
/-- Which block of the scores each point of the first launch takes. -/
theorem index0_5 : ∀ t : Fin grid0.N, win0_5.index t 0 = t.val / 8 ∧ win0_5.index t 1 = t.val % 8 ∧ win0_5.index t 2 = 0 := by
  decide +kernel
/-- Which block of the scores each point of the attention launch takes. -/
theorem index1_0 : ∀ t : Fin grid1.N, win1_0.index t 0 = t.val ∧ win1_0.index t 1 = 0 ∧ win1_0.index t 2 = 0 := by
  decide +kernel
/-- Which block of the group means each point of the attention launch takes. -/
theorem index1_1 : ∀ t : Fin grid1.N, win1_1.index t 0 = t.val ∧ win1_1.index t 1 = 0 ∧ win1_1.index t 2 = 0 := by
  decide +kernel
/-- Which block of the query weights each point of the attention launch takes. -/
theorem index1_2 : ∀ t : Fin grid1.N, win1_2.index t 0 = 0 ∧ win1_2.index t 1 = 0 := by
  decide +kernel
/-- Which block of the key weights each point of the attention launch takes. -/
theorem index1_3 : ∀ t : Fin grid1.N, win1_3.index t 0 = 0 ∧ win1_3.index t 1 = 0 := by
  decide +kernel
/-- Which block of the value weights each point of the attention launch takes. -/
theorem index1_4 : ∀ t : Fin grid1.N, win1_4.index t 0 = 0 ∧ win1_4.index t 1 = 0 := by
  decide +kernel
/-- Which block of the output weights each point of the attention launch takes. -/
theorem index1_5 : ∀ t : Fin grid1.N, win1_5.index t 0 = 0 ∧ win1_5.index t 1 = 0 := by
  decide +kernel
/-- Which block of the group values each point of the attention launch takes. -/
theorem index1_6 : ∀ t : Fin grid1.N, win1_6.index t 0 = t.val ∧ win1_6.index t 1 = 0 ∧ win1_6.index t 2 = 0 := by
  decide +kernel
/-- Which block of the group values each point of the last launch takes. -/
theorem index2_0 : ∀ t : Fin grid2.N, win2_0.index t 0 = t.val / 8 ∧ win2_0.index t 1 = t.val % 8 ∧ win2_0.index t 2 = 0 := by
  decide +kernel
/-- Which block of the expanded rows each point of the last launch takes. -/
theorem index2_1 : ∀ t : Fin grid2.N, win2_1.index t 0 = t.val / 8 ∧ win2_1.index t 1 = t.val % 8 ∧ win2_1.index t 2 = 0 ∧ win2_1.index t 3 = 0 := by
  decide +kernel

/-! Where an index of a block lies in the window's array. -/

/-- An index of the tokens block at a point of the first launch, as an index of the whole array. -/
theorem emb0_0 (t : Fin cfg0.N) (b : Fin 2) (r : Fin 8) (ht : t.val = b.val * 8 + r.val) (x : Fin 1024) (y : Fin 1024) :
    ((cfg0.win 0).blk t).view.emb (ix3 0 x y) = ix3 b ⟨r.val * 1024 + x.val, by omega⟩ y := by
  refine funext fun a => Fin.ext ?_
  obtain ⟨h0, h1, h2⟩ := index0_0 t
  fin_cases a
  · show win0_0.index t 0 * 1 + 1 * 0 = b.val
    omega
  · show win0_0.index t 1 * 1024 + 1 * x.val = r.val * 1024 + x.val
    omega
  · show win0_0.index t 2 * 1024 + 1 * y.val = y.val
    omega

/-- An index of the hidden weights block at a point of the first launch, as an index of the whole array. -/
theorem emb0_1 (t : Fin cfg0.N) (x : Fin 256) (y : Fin 1024) :
    ((cfg0.win 1).blk t).view.emb (ix2 x y) = ix2 x y := by
  refine funext fun a => Fin.ext ?_
  obtain ⟨h0, h1⟩ := index0_1 t
  fin_cases a
  · show win0_1.index t 0 * 256 + 1 * x.val = x.val
    omega
  · show win0_1.index t 1 * 1024 + 1 * y.val = y.val
    omega

/-- An index of the hidden bias row block at a point of the first launch, as an index of the whole array. -/
theorem emb0_2 (t : Fin cfg0.N) (x : Fin 1) (y : Fin 256) :
    ((cfg0.win 2).blk t).view.emb (ix2 x y) = ix2 x y := by
  refine funext fun a => Fin.ext ?_
  obtain ⟨h0, h1⟩ := index0_2 t
  fin_cases a
  · show win0_2.index t 0 * 1 + 1 * x.val = x.val
    omega
  · show win0_2.index t 1 * 256 + 1 * y.val = y.val
    omega

/-- An index of the output weights block at a point of the first launch, as an index of the whole array. -/
theorem emb0_3 (t : Fin cfg0.N) (x : Fin 1) (y : Fin 256) :
    ((cfg0.win 3).blk t).view.emb (ix2 x y) = ix2 x y := by
  refine funext fun a => Fin.ext ?_
  obtain ⟨h0, h1⟩ := index0_3 t
  fin_cases a
  · show win0_3.index t 0 * 1 + 1 * x.val = x.val
    omega
  · show win0_3.index t 1 * 256 + 1 * y.val = y.val
    omega

/-- An index of the group means block at a point of the first launch, as an index of the whole array. -/
theorem emb0_4 (t : Fin cfg0.N) (b : Fin 2) (r : Fin 8) (ht : t.val = b.val * 8 + r.val) (x : Fin 64) (y : Fin 1024) :
    ((cfg0.win 4).blk t).view.emb (ix3 0 x y) = ix3 b ⟨r.val * 64 + x.val, by omega⟩ y := by
  refine funext fun a => Fin.ext ?_
  obtain ⟨h0, h1, h2⟩ := index0_4 t
  fin_cases a
  · show win0_4.index t 0 * 1 + 1 * 0 = b.val
    omega
  · show win0_4.index t 1 * 64 + 1 * x.val = r.val * 64 + x.val
    omega
  · show win0_4.index t 2 * 1024 + 1 * y.val = y.val
    omega

/-- An index of the scores block at a point of the first launch, as an index of the whole array. -/
theorem emb0_5 (t : Fin cfg0.N) (b : Fin 2) (r : Fin 8) (ht : t.val = b.val * 8 + r.val) (x : Fin 64) (y : Fin 128) :
    ((cfg0.win 5).blk t).view.emb (ix3 0 x y) = ix3 b ⟨r.val * 64 + x.val, by omega⟩ y := by
  refine funext fun a => Fin.ext ?_
  obtain ⟨h0, h1, h2⟩ := index0_5 t
  fin_cases a
  · show win0_5.index t 0 * 1 + 1 * 0 = b.val
    omega
  · show win0_5.index t 1 * 64 + 1 * x.val = r.val * 64 + x.val
    omega
  · show win0_5.index t 2 * 128 + 1 * y.val = y.val
    omega

/-- An index of the scores block at a point of the attention launch, as an index of the whole array. -/
theorem emb1_0 (t : Fin cfg1.N) (b : Fin 2) (ht : t.val = b.val) (x : Fin 512) (y : Fin 128) :
    ((cfg1.win 0).blk t).view.emb (ix3 0 x y) = ix3 b x y := by
  refine funext fun a => Fin.ext ?_
  obtain ⟨h0, h1, h2⟩ := index1_0 t
  fin_cases a
  · show win1_0.index t 0 * 1 + 1 * 0 = b.val
    omega
  · show win1_0.index t 1 * 512 + 1 * x.val = x.val
    omega
  · show win1_0.index t 2 * 128 + 1 * y.val = y.val
    omega

/-- An index of the group means block at a point of the attention launch, as an index of the whole array. -/
theorem emb1_1 (t : Fin cfg1.N) (b : Fin 2) (ht : t.val = b.val) (x : Fin 512) (y : Fin 1024) :
    ((cfg1.win 1).blk t).view.emb (ix3 0 x y) = ix3 b x y := by
  refine funext fun a => Fin.ext ?_
  obtain ⟨h0, h1, h2⟩ := index1_1 t
  fin_cases a
  · show win1_1.index t 0 * 1 + 1 * 0 = b.val
    omega
  · show win1_1.index t 1 * 512 + 1 * x.val = x.val
    omega
  · show win1_1.index t 2 * 1024 + 1 * y.val = y.val
    omega

/-- An index of the query weights block at a point of the attention launch, as an index of the whole array. -/
theorem emb1_2 (t : Fin cfg1.N) (x : Fin 1024) (y : Fin 1024) :
    ((cfg1.win 2).blk t).view.emb (ix2 x y) = ix2 x y := by
  refine funext fun a => Fin.ext ?_
  obtain ⟨h0, h1⟩ := index1_2 t
  fin_cases a
  · show win1_2.index t 0 * 1024 + 1 * x.val = x.val
    omega
  · show win1_2.index t 1 * 1024 + 1 * y.val = y.val
    omega

/-- An index of the key weights block at a point of the attention launch, as an index of the whole array. -/
theorem emb1_3 (t : Fin cfg1.N) (x : Fin 1024) (y : Fin 1024) :
    ((cfg1.win 3).blk t).view.emb (ix2 x y) = ix2 x y := by
  refine funext fun a => Fin.ext ?_
  obtain ⟨h0, h1⟩ := index1_3 t
  fin_cases a
  · show win1_3.index t 0 * 1024 + 1 * x.val = x.val
    omega
  · show win1_3.index t 1 * 1024 + 1 * y.val = y.val
    omega

/-- An index of the value weights block at a point of the attention launch, as an index of the whole array. -/
theorem emb1_4 (t : Fin cfg1.N) (x : Fin 1024) (y : Fin 1024) :
    ((cfg1.win 4).blk t).view.emb (ix2 x y) = ix2 x y := by
  refine funext fun a => Fin.ext ?_
  obtain ⟨h0, h1⟩ := index1_4 t
  fin_cases a
  · show win1_4.index t 0 * 1024 + 1 * x.val = x.val
    omega
  · show win1_4.index t 1 * 1024 + 1 * y.val = y.val
    omega

/-- An index of the output weights block at a point of the attention launch, as an index of the whole array. -/
theorem emb1_5 (t : Fin cfg1.N) (x : Fin 1024) (y : Fin 1024) :
    ((cfg1.win 5).blk t).view.emb (ix2 x y) = ix2 x y := by
  refine funext fun a => Fin.ext ?_
  obtain ⟨h0, h1⟩ := index1_5 t
  fin_cases a
  · show win1_5.index t 0 * 1024 + 1 * x.val = x.val
    omega
  · show win1_5.index t 1 * 1024 + 1 * y.val = y.val
    omega

/-- An index of the group values block at a point of the attention launch, as an index of the whole array. -/
theorem emb1_6 (t : Fin cfg1.N) (b : Fin 2) (ht : t.val = b.val) (x : Fin 512) (y : Fin 1024) :
    ((cfg1.win 6).blk t).view.emb (ix3 0 x y) = ix3 b x y := by
  refine funext fun a => Fin.ext ?_
  obtain ⟨h0, h1, h2⟩ := index1_6 t
  fin_cases a
  · show win1_6.index t 0 * 1 + 1 * 0 = b.val
    omega
  · show win1_6.index t 1 * 512 + 1 * x.val = x.val
    omega
  · show win1_6.index t 2 * 1024 + 1 * y.val = y.val
    omega

/-- An index of the group values block at a point of the last launch, as an index of the whole array. -/
theorem emb2_0 (t : Fin cfg2.N) (b : Fin 2) (r : Fin 8) (ht : t.val = b.val * 8 + r.val) (x : Fin 64) (y : Fin 1024) :
    ((cfg2.win 0).blk t).view.emb (ix3 0 x y) = ix3 b ⟨r.val * 64 + x.val, by omega⟩ y := by
  refine funext fun a => Fin.ext ?_
  obtain ⟨h0, h1, h2⟩ := index2_0 t
  fin_cases a
  · show win2_0.index t 0 * 1 + 1 * 0 = b.val
    omega
  · show win2_0.index t 1 * 64 + 1 * x.val = r.val * 64 + x.val
    omega
  · show win2_0.index t 2 * 1024 + 1 * y.val = y.val
    omega

/-- An index of the expanded rows block at a point of the last launch, as an index of the whole array. -/
theorem emb2_1 (t : Fin cfg2.N) (b : Fin 2) (r : Fin 8) (ht : t.val = b.val * 8 + r.val) (x : Fin 64) (y : Fin 16) (z : Fin 1024) :
    ((cfg2.win 1).blk t).view.emb (ix4 0 x y z) = ix4 b ⟨r.val * 64 + x.val, by omega⟩ y z := by
  refine funext fun a => Fin.ext ?_
  obtain ⟨h0, h1, h2, h3⟩ := index2_1 t
  fin_cases a
  · show win2_1.index t 0 * 1 + 1 * 0 = b.val
    omega
  · show win2_1.index t 1 * 64 + 1 * x.val = r.val * 64 + x.val
    omega
  · show win2_1.index t 2 * 16 + 1 * y.val = y.val
    omega
  · show win2_1.index t 3 * 1024 + 1 * z.val = z.val
    omega

end Cert.KernelIdeal.Arrays

end
-- ==== Proof.Arrays.lean ====
/- The three launches' arrays as whole-array functions of the arrays each launch is entered with. -/
module

public import proofs.«01_k».proof.Proof.Blocks

@[expose] public section

set_option maxRecDepth 16384

noncomputable section

namespace Cert.KernelIdeal.Arrays

open Idealize.ShloMosaic Idealize.ShloMosaic.TcCoe Cert.KernelIdeal Cert.KernelIdeal.Gen Cert.KernelIdeal.Body Cert.Spec
open Idealize.ShloMosaic.Pipeline (Dat Cfg Window)

variable (V : (c : Dev nD) → (b : Ref sig .tc) → Buf (Elt Ideal) ((c : Thread nD τ).loc b)) (c : Dev nD)

/-- The tokens, the group means, … an array of three axes by its coordinates. -/
abbrev at3 {a b d : Nat} (x : Shape.Idx ⟨3, ![a, b, d]⟩ → EReal) (i : Fin a) (j : Fin b) (k : Fin d) : EReal := x (ix3 i j k)
/-- An array of two axes by its coordinates. -/
abbrev at2 {a b : Nat} (x : Shape.Idx ⟨2, ![a, b]⟩ → EReal) (i : Fin a) (j : Fin b) : EReal := x (ix2 i j)

/-- The group means. -/
def meansOf (x : S2x8192x1024.Idx → EReal) : S2x512x1024.Idx → EReal := fun i => mean (at3 x) (i 0) (i 1) (i 2)

/-- A point of the first or last launch is a batch and a block of groups. -/
theorem point_split (t : Fin 16) : ∃ (b : Fin 2) (r : Fin 8), t.val = b.val * 8 + r.val :=
  ⟨⟨t.val / 8, by omega⟩, ⟨t.val % 8, by omega⟩, by show t.val = t.val / 8 * 8 + t.val % 8; omega⟩

/-- Every batch and block of groups is a point of those launches. -/
theorem point_of (b : Fin 2) (r : Fin 8) : ∃ t : Fin 16, t.val = b.val * 8 + r.val :=
  ⟨⟨b.val * 8 + r.val, by omega⟩, rfl⟩

/-- A group is a block of 64 groups and a place in it. -/
theorem group_split (n : Fin 512) : ∃ (r : Fin 8) (x : Fin 64), n = ⟨r.val * 64 + x.val, by omega⟩ :=
  ⟨⟨n.val / 64, by omega⟩, ⟨n.val % 64, by omega⟩, Fin.ext (by show n.val = n.val / 64 * 64 + n.val % 64; omega)⟩

/-! ## The first launch -/

/-- A block of the tokens, entry by entry. -/
theorem tokens_blk (t : Fin cfg0.N) (b : Fin 2) (r : Fin 8) (ht : t.val = b.val * 8 + r.val) (x y : Fin 1024) :
    iblk0 V c 0 t (ix3 0 x y) = V c main_arg0 (ix3 b ⟨r.val * 1024 + x.val, by omega⟩ y) :=
  congrArg (V c main_arg0) (emb0_0 t b r ht x y)

/-- A block of the group means, from a block of the tokens. -/
theorem means_blk (t : Fin cfg0.N) (b : Fin 2) (r : Fin 8) (ht : t.val = b.val * 8 + r.val) (x : Fin 64) (y : Fin 1024) :
    out0_4 (iblk0 V c 0 t) (iblk0 V c 1 t) (iblk0 V c 2 t) (iblk0 V c 3 t) (ix3 0 x y)
      = meansOf (V c main_arg0) (ix3 b ⟨r.val * 64 + x.val, by omega⟩ y) := by
  rw [out0_4_apply]
  show _ = (∑ s : Fin 16, at3 (V c main_arg0) b (token _ s) y) * _
  refine congrArg (· * _) (Finset.sum_congr rfl fun s _ => ?_)
  rw [tokens_blk V c t b r ht]
  exact congrArg (fun z => V c main_arg0 (ix3 b z y)) (Fin.ext (by
    show r.val * 1024 + (x.val * 16 + s.val) = (r.val * 64 + x.val) * 16 + s.val
    omega))

/-- After the first launch, its first output holds the group means. -/
theorem means_eq : (dat0 V c).arrAt 4 cfg0.N = meansOf (V c main_arg0) := by
  refine (dat0 V c).arrAt_eq_of_cover 4 (meansOf (V c main_arg0)) (fun t _ => ?_) (fun i => ?_)
  · obtain ⟨b, r, ht⟩ := point_split t
    show (cfg0.win 4).cut (grid0.coords t) ((dat0 V c).after 4 t) = _
    rw [after0_4]
    funext j
    show out0_4 (F := Ideal) _ _ _ _ j = meansOf (V c main_arg0) (((cfg0.win 4).blk t).view.emb j)
    change S1x64x1024.Idx at j
    idx_vars j
    obtain rfl : j0 = 0 := Subsingleton.elim _ _
    exact (means_blk V c t b r ht j1 j2).trans (congrArg _ (emb0_4 t b r ht j1 j2).symm)
  · change S2x512x1024.Idx at i
    idx_vars i
    obtain ⟨r, x, rfl⟩ := group_split i1
    obtain ⟨t, ht⟩ := point_of i0 r
    exact ⟨t, flush0_4 t, emb0_4 t i0 r ht x i2 ▸ ((cfg0.win 4).blk t).view.emb_mem_set (ix3 0 x i2)⟩

/-- The scores: each group's, in each of the 128 lanes. -/
def scoresOf (x : S2x8192x1024.Idx → EReal) (w1 : S256x1024.Idx → EReal) (b1 w2 : S1x256.Idx → EReal) : S2x512x128.Idx → EReal :=
  fun i => score (at2 w1) (at2 b1 0) (at2 w2 0) (mean (at3 x) (i 0) (i 1))

/-- After the first launch, its second output holds the group scores. -/
theorem scores_eq : (dat0 V c).arrAt 5 cfg0.N
    = scoresOf (V c main_arg0) (V c main_arg5) (V c main_v0) (V c main_arg7) := by
  refine (dat0 V c).arrAt_eq_of_cover 5 (scoresOf (V c main_arg0) (V c main_arg5) (V c main_v0) (V c main_arg7))
    (fun t _ => ?_) (fun i => ?_)
  · obtain ⟨b, r, ht⟩ := point_split t
    show (cfg0.win 5).cut (grid0.coords t) ((dat0 V c).after 5 t) = _
    rw [after0_5]
    funext j
    show out0_5 (F := Ideal) _ _ _ _ j = scoresOf _ _ _ _ (((cfg0.win 5).blk t).view.emb j)
    change S1x64x128.Idx at j
    idx_vars j
    obtain rfl : j0 = 0 := Subsingleton.elim _ _
    refine Eq.trans ?_ (congrArg _ (emb0_5 t b r ht j1 j2).symm)
    rw [out0_5_apply]
    simp only [means_blk V c t b r ht]
    have e1 : ∀ e d, iblk0 V c 1 t (ix2 e d) = V c main_arg5 (ix2 e d) := fun e d => congrArg (V c main_arg5) (emb0_1 t e d)
    have e2 : ∀ e, iblk0 V c 2 t (ix2 0 e) = V c main_v0 (ix2 0 e) := fun e => congrArg (V c main_v0) (emb0_2 t 0 e)
    have e3 : ∀ e, iblk0 V c 3 t (ix2 0 e) = V c main_arg7 (ix2 0 e) := fun e => congrArg (V c main_arg7) (emb0_3 t 0 e)
    simp only [e1, e2, e3]
    rfl
  · change S2x512x128.Idx at i
    idx_vars i
    obtain ⟨r, x, rfl⟩ := group_split i1
    obtain ⟨t, ht⟩ := point_of i0 r
    exact ⟨t, flush0_5 t, emb0_5 t i0 r ht x i2 ▸ ((cfg0.win 5).blk t).view.emb_mem_set (ix3 0 x i2)⟩

/-! ## The attention launch -/

/-- Batch `b` of an array, as a block with one batch. -/
def batch {p q : Nat} (x : Shape.Idx ⟨3, ![2, p, q]⟩ → EReal) (b : Fin 2) : Shape.Idx ⟨3, ![1, p, q]⟩ → EReal :=
  fun j => x (ix3 b (j 1) (j 2))

/-- The attention launch's result, from the scores, the group means and the weights. -/
def attOf (s : S2x512x128.Idx → EReal) (g : S2x512x1024.Idx → EReal) (wq wk wv wo : S1024x1024.Idx → EReal) :
    S2x512x1024.Idx → EReal := fun i =>
  ∑ q : Fin 64, k1_pay3 (F := Ideal) (batch s (i 0)) (ix2 q (i 1)) *
    att (at2 wq) (at2 wk) (at2 wv) (at2 wo) (picked (k1_pay3 (F := Ideal) (batch s (i 0))) (batch g (i 0))) q (i 2)

/-- After the attention launch, its output holds the attention outputs, each at the group it belongs to. -/
theorem att_eq : (dat1 V c).arrAt 6 cfg1.N = attOf (V c main_v1_1) (V c main_v1_0) (V c main_arg1) (V c main_arg2)
    (V c main_arg3) (V c main_arg4) := by
  refine (dat1 V c).arrAt_eq_of_cover 6 (attOf (V c main_v1_1) (V c main_v1_0) (V c main_arg1) (V c main_arg2)
    (V c main_arg3) (V c main_arg4)) (fun t _ => ?_) (fun i => ?_)
  · obtain ⟨b, ht⟩ : ∃ b : Fin 2, t.val = b.val := ⟨t, rfl⟩
    show (cfg1.win 6).cut (grid1.coords t) ((dat1 V c).after 6 t) = _
    rw [after1_6]
    funext j
    show out1_6 (F := Ideal) _ _ _ _ _ _ j = attOf _ _ _ _ _ _ (((cfg1.win 6).blk t).view.emb j)
    change S1x512x1024.Idx at j
    idx_vars j
    obtain rfl : j0 = 0 := Subsingleton.elim _ _
    refine Eq.trans ?_ (congrArg _ (emb1_6 t b ht j1 j2).symm)
    have e0 : iblk1 V c 0 t = batch (V c main_v1_1) b := funext fun j => by
      change S1x512x128.Idx at j
      idx_vars j
      obtain rfl : j0 = 0 := Subsingleton.elim _ _
      exact congrArg (V c main_v1_1) (emb1_0 t b ht j1 j2)
    have e1 : iblk1 V c 1 t = batch (V c main_v1_0) b := funext fun j => by
      change S1x512x1024.Idx at j
      idx_vars j
      obtain rfl : j0 = 0 := Subsingleton.elim _ _
      exact congrArg (V c main_v1_0) (emb1_1 t b ht j1 j2)
    have e2 : ∀ e d, iblk1 V c 2 t (ix2 e d) = V c main_arg1 (ix2 e d) := fun e d => congrArg (V c main_arg1) (emb1_2 t e d)
    have e3 : ∀ e d, iblk1 V c 3 t (ix2 e d) = V c main_arg2 (ix2 e d) := fun e d => congrArg (V c main_arg2) (emb1_3 t e d)
    have e4 : ∀ e d, iblk1 V c 4 t (ix2 e d) = V c main_arg3 (ix2 e d) := fun e d => congrArg (V c main_arg3) (emb1_4 t e d)
    have e5 : ∀ e d, iblk1 V c 5 t (ix2 e d) = V c main_arg4 (ix2 e d) := fun e d => congrArg (V c main_arg4) (emb1_5 t e d)
    rw [out1_6_apply, e0, e1]
    simp only [e2, e3, e4, e5]
    rfl
  · change S2x512x1024.Idx at i
    idx_vars i
    obtain ⟨t, ht⟩ : ∃ t : Fin cfg1.N, t.val = i0.val := ⟨i0, rfl⟩
    exact ⟨t, flush1_6 t, emb1_6 t i0 ht i1 i2 ▸ ((cfg1.win 6).blk t).view.emb_mem_set (ix3 0 i1 i2)⟩

/-! ## The last launch -/

/-- Every group's row, sixteen times. -/
def spread (y : S2x512x1024.Idx → EReal) : S2x512x16x1024.Idx → EReal := fun i => y (ix3 (i 0) (i 1) (i 3))

/-- After the last launch, its output holds each group's row at each of the group's 16 tokens. -/
theorem spread_eq : (dat2 V c).arrAt 1 cfg2.N = spread (V c main_v2) := by
  refine (dat2 V c).arrAt_eq_of_cover 1 (spread (V c main_v2)) (fun t _ => ?_) (fun i => ?_)
  · obtain ⟨b, r, ht⟩ := point_split t
    show (cfg2.win 1).cut (grid2.coords t) ((dat2 V c).after 1 t) = _
    rw [after2_1]
    funext j
    show out2_1 (F := Ideal) _ j = spread _ (((cfg2.win 1).blk t).view.emb j)
    change S1x64x16x1024.Idx at j
    idx_vars j
    obtain rfl : j0 = 0 := Subsingleton.elim _ _
    refine Eq.trans ?_ (congrArg _ (emb2_1 t b r ht j1 j2 j3).symm)
    rw [out2_1_apply]
    exact congrArg (V c main_v2) (emb2_0 t b r ht j1 j3)
  · change S2x512x16x1024.Idx at i
    idx_vars i
    obtain ⟨r, x, rfl⟩ := group_split i1
    obtain ⟨t, ht⟩ := point_of i0 r
    exact ⟨t, flush2_1 t, emb2_1 t i0 r ht x i2 i3 ▸ ((cfg2.win 1).blk t).view.emb_mem_set (ix4 0 x i2 i3)⟩

end Cert.KernelIdeal.Arrays

end
-- ==== Proof.KernelValue.lean ====
/- The kernel's result array, as a function of its arguments: the three launches and the two host reshapes, chained. -/
module

public import proofs.«01_k».proof.Proof.Arrays
public import Idealize.ShloMosaic.Lib.Claim

@[expose] public section

set_option maxRecDepth 16384

noncomputable section

namespace Cert.KernelIdeal.Arrays

open Idealize.ShloMosaic Idealize.ShloMosaic.TcCoe Cert.KernelIdeal Cert.KernelIdeal.Gen Cert.KernelIdeal.Body Cert.Spec
open Idealize.ShloMosaic.Pipeline (Dat Cfg Window)

variable (m : (ℓ : Loc nD τ sig) → Buf (Elt Ideal) ℓ) (ρ : Dev nD → PrngReg) (c : Dev nD)

/-- The kernel's result, from its arguments: each token gets its group's row of the attention launch's output. -/
def result (x : S2x8192x1024.Idx → EReal) (wq wk wv wo : S1024x1024.Idx → EReal) (w1 : S256x1024.Idx → EReal)
    (b1 : S256.Idx → EReal) (w2 : S1x256.Idx → EReal) : S2x8192x1024.Idx → EReal := fun i =>
  attOf (scoresOf x w1 (fun j => b1 (ix1 (j 1))) w2) (meansOf x) wq wk wv wo
    (ix3 (i 0) ⟨(i 1).val / 16, by have := (i 1).isLt; change _ < 8192 at this; omega⟩ (i 2))

/-! An argument array still holds its contents when the first, and when the second, launch is entered. -/

/-- At the first launch. -/
theorem arg_at1 (a : Ref sig .tc) (ha : a ∈ argRefs) : V1 m ρ c a = m ((c : Thread nD τ).loc a) := W1_args m ρ c a ha
/-- At the second launch. -/
theorem arg_at2 (a : Ref sig .tc) (ha : a ∈ argRefs) : V2 m ρ c a = m ((c : Thread nD τ).loc a) := W2_args m ρ c a ha

/-- The first bias, as a row. -/
theorem bias_row : V1 m ρ c main_v0 = fun j => m ((c : Thread nD τ).loc main_arg6) (ix1 (j 1)) := by
  have h : W1 m ρ c (Proc.devRef .tc main_v0) = shapeCast S1x256 (W0 m ρ c (Proc.devRef .tc main_arg6)) shapeCasts_S256_S1x256 := by
    show StableHlo.after hostOps0 (W0 m ρ c) _ = _
    after_results
    rfl
  refine h.trans ?_
  funext j
  change S1x256.Idx at j
  idx_vars j
  obtain rfl : j0 = 0 := Subsingleton.elim _ _
  show shapeCast S1x256 (m ((c : Thread nD τ).loc main_arg6)) shapeCasts_S256_S1x256 (ix2 0 j1) = _
  pointwise

/-- What the kernel's result array ends holding. -/
theorem result_eq : W5 m ρ c (Proc.devRef .tc main_v4)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  have h5 : W5 m ρ c (Proc.devRef .tc main_v4) = shapeCast S2x8192x1024 (W4 m ρ c (Proc.devRef .tc main_v3)) shapeCasts_S2x512x16x1024_S2x8192x1024 := by
    show StableHlo.after hostOps3 (W4 m ρ c) _ = _
    after_results
    rfl
  have h3 : V3 m ρ c main_v2 = _ := (W3_arr m ρ c 6).trans (att_eq (V2 m ρ) c)
  have h4 : W4 m ρ c (Proc.devRef .tc main_v3) = spread (V3 m ρ c main_v2) := (W4_arr m ρ c 1).trans (spread_eq (V3 m ρ) c)
  have h20 : V2 m ρ c main_v1_0 = _ := (W2_arr m ρ c 4).trans (means_eq (V1 m ρ) c)
  have h21 : V2 m ρ c main_v1_1 = _ := (W2_arr m ρ c 5).trans (scores_eq (V1 m ρ) c)
  rw [arg_at1 m ρ c main_arg0 (by decide)] at h20
  rw [arg_at1 m ρ c main_arg0 (by decide), arg_at1 m ρ c main_arg5 (by decide), arg_at1 m ρ c main_arg7 (by decide), bias_row] at h21
  rw [h20, h21, arg_at2 m ρ c main_arg1 (by decide), arg_at2 m ρ c main_arg2 (by decide), arg_at2 m ρ c main_arg3 (by decide),
    arg_at2 m ρ c main_arg4 (by decide)] at h3
  rw [h5, h4, h3]
  funext j
  change S2x8192x1024.Idx at j
  idx_vars j
  pointwise
  rfl

end Cert.KernelIdeal.Arrays

end
-- ==== Proof.Select.lean ====
/- Choosing the 64 best of 512 scores: ties go to the lower index. The chosen ones are counted twice over, by rank and
   in index order; the two countings differ by a permutation. -/
module

public import Mathlib.Data.EReal.Basic
public import Mathlib.Data.Fintype.Card
public import Mathlib.Data.Fintype.EquivFin
public import Mathlib.Logic.Equiv.Basic
public import Mathlib.Order.Interval.Finset.Fin

@[expose] public section

noncomputable section

namespace Cert.Select

open Classical

variable (s : Fin 512 → EReal)

/-- `j` is ahead of `i`: a larger score, or the same score and a lower index. -/
def Ahead (j i : Fin 512) : Prop := s i < s j ∨ (s j = s i ∧ j < i)

/-- No index is ahead of itself. -/
theorem ahead_irrefl (i : Fin 512) : ¬ Ahead s i i := fun h => by
  rcases h with h | h
  · exact lt_irrefl _ h
  · exact lt_irrefl _ h.2

/-- Being ahead is transitive. -/
theorem ahead_trans {i j k : Fin 512} (h : Ahead s i j) (h' : Ahead s j k) : Ahead s i k := by
  rcases h with h | ⟨h, hi⟩ <;> rcases h' with h' | ⟨h', hj⟩
  · exact .inl (h'.trans h)
  · exact .inl (h' ▸ h)
  · exact .inl (h ▸ h')
  · exact .inr ⟨h.trans h', hi.trans hj⟩

/-- Of two indices one is ahead of the other. -/
theorem ahead_total {i j : Fin 512} (h : i ≠ j) : Ahead s i j ∨ Ahead s j i := by
  rcases lt_trichotomy (s i) (s j) with hs | hs | hs
  · exact .inr (.inl hs)
  · rcases lt_or_gt_of_ne h with hi | hi
    · exact .inl (.inr ⟨hs, hi⟩)
    · exact .inr (.inr ⟨hs.symm, hi⟩)
  · exact .inl (.inl hs)

/-- How many are ahead. -/
def rank (i : Fin 512) : ℕ := (Finset.univ.filter fun j => Ahead s j i).card

/-- An index ahead has the smaller rank. -/
theorem rank_lt_of_ahead {i j : Fin 512} (h : Ahead s i j) : rank s i < rank s j := by
  refine Finset.card_lt_card ⟨fun k hk => ?_, fun hsub => ?_⟩
  · simp only [Finset.mem_filter, Finset.mem_univ, true_and] at hk ⊢
    exact ahead_trans s hk h
  · have := hsub (show i ∈ Finset.univ.filter fun k => Ahead s k j by simpa using h)
    simp only [Finset.mem_filter, Finset.mem_univ, true_and] at this
    exact ahead_irrefl s i this

/-- The smaller rank is the index ahead. -/
theorem rank_lt_iff {i j : Fin 512} : rank s i < rank s j ↔ Ahead s i j := by
  refine ⟨fun h => ?_, rank_lt_of_ahead s⟩
  by_contra hn
  rcases eq_or_ne i j with rfl | hne
  · exact lt_irrefl _ h
  · rcases ahead_total s hne with h' | h'
    · exact hn h'
    · exact lt_asymm h (rank_lt_of_ahead s h')

/-- Different indices have different ranks. -/
theorem rank_injective : Function.Injective (rank s) := fun i j h => by
  by_contra hne
  rcases ahead_total s hne with h' | h'
  · exact absurd (rank_lt_of_ahead s h') (by omega)
  · exact absurd (rank_lt_of_ahead s h') (by omega)

/-- A rank is below 512. -/
theorem rank_lt (i : Fin 512) : rank s i < 512 := by
  have h : (Finset.univ.filter fun j => Ahead s j i) ⊂ Finset.univ :=
    ⟨Finset.filter_subset _ _, fun hsub => ahead_irrefl s i (by
      have := hsub (Finset.mem_univ i)
      simpa using this)⟩
  have := Finset.card_lt_card h
  rwa [Finset.card_univ, Fintype.card_fin] at this

/-- Every rank below 512 is some index's. -/
theorem exists_rank (q : Fin 512) : ∃ i, rank s i = q.val := by
  have hb : Function.Bijective (fun i : Fin 512 => (⟨rank s i, rank_lt s i⟩ : Fin 512)) :=
    (Fintype.bijective_iff_injective_and_card _).2 ⟨fun i j h => rank_injective s (congrArg Fin.val h), rfl⟩
  obtain ⟨i, hi⟩ := hb.2 q
  exact ⟨i, congrArg Fin.val hi⟩

/-- Chosen: fewer than 64 are ahead. -/
def Chosen (i : Fin 512) : Prop := rank s i < 64

/-- The chosen, by rank. -/
def byRank : {i // Chosen s i} ≃ Fin 64 :=
  Equiv.ofBijective (fun i => ⟨rank s i.1, i.2⟩)
    ⟨fun i j h => Subtype.ext (rank_injective s (congrArg Fin.val h)), fun q => by
      obtain ⟨i, hi⟩ := exists_rank s ⟨q.val, by omega⟩
      exact ⟨⟨i, by show rank s i < 64; rw [hi]; exact q.isLt⟩, Fin.ext hi⟩⟩

/-- How many of the chosen come no later in index order. -/
def place (i : Fin 512) : ℕ := (Finset.univ.filter fun j => j ≤ i ∧ Chosen s j).card

/-- A chosen index has a larger place than every index before it. -/
theorem place_lt {i j : Fin 512} (h : i < j) (hj : Chosen s j) : place s i < place s j := by
  refine Finset.card_lt_card ⟨fun k hk => ?_, fun hsub => ?_⟩
  · simp only [Finset.mem_filter, Finset.mem_univ, true_and] at hk ⊢
    exact ⟨hk.1.trans h.le, hk.2⟩
  · have := hsub (show j ∈ Finset.univ.filter fun k => k ≤ j ∧ Chosen s k by simpa using hj)
    simp only [Finset.mem_filter, Finset.mem_univ, true_and] at this
    exact absurd this.1 (not_le.2 h)

/-- Exactly 64 indices are chosen. -/
theorem card_chosen : (Finset.univ.filter fun j => Chosen s j).card = 64 := by
  rw [← Fintype.card_subtype]
  exact (Fintype.card_congr (byRank s)).trans (Fintype.card_fin 64)

/-- A chosen index has a positive place. -/
theorem place_pos {i : Fin 512} (hi : Chosen s i) : 0 < place s i :=
  Finset.card_pos.2 ⟨i, by simpa using hi⟩

/-- A place is at most 64. -/
theorem place_le (i : Fin 512) : place s i ≤ 64 := by
  rw [← card_chosen s]
  exact Finset.card_le_card fun k hk => by
    simp only [Finset.mem_filter, Finset.mem_univ, true_and] at hk ⊢
    exact hk.2

/-- The chosen, in index order. -/
def inOrder : {i // Chosen s i} ≃ Fin 64 :=
  Equiv.ofBijective (fun i => ⟨place s i.1 - 1, by have := place_pos s i.2; have := place_le s i.1; omega⟩)
    ((Fintype.bijective_iff_injective_and_card _).2 ⟨fun i j h => by
      have h' : place s i.1 - 1 = place s j.1 - 1 := congrArg Fin.val h
      have hi := place_pos s i.2
      have hj := place_pos s j.2
      refine Subtype.ext (by_contra fun hne => ?_)
      rcases lt_or_gt_of_ne hne with hlt | hlt
      · have := place_lt s hlt j.2
        omega
      · have := place_lt s hlt i.2
        omega, Fintype.card_congr (byRank s)⟩)

/-- A chosen index's position in index order, counted from 0, is one less than its place. -/
theorem inOrder_val (i : {i // Chosen s i}) : (inOrder s i).val + 1 = place s i.1 := by
  have := place_pos s i.2
  show place s i.1 - 1 + 1 = place s i.1
  omega

/-- The `q`-th chosen in index order. -/
def pick (q : Fin 64) : Fin 512 := ((inOrder s).symm q).1

/-- `n` is the `q`-th chosen exactly when it is chosen and `q + 1` of the chosen come no later. -/
theorem eq_pick_iff (n : Fin 512) (q : Fin 64) : n = pick s q ↔ Chosen s n ∧ place s n = q.val + 1 := by
  constructor
  · rintro rfl
    refine ⟨((inOrder s).symm q).2, ?_⟩
    have := inOrder_val s ((inOrder s).symm q)
    rw [Equiv.apply_symm_apply] at this
    exact this.symm
  · rintro ⟨hc, hp⟩
    have h : inOrder s ⟨n, hc⟩ = q := Fin.ext (by
      have h1 : (inOrder s ⟨n, hc⟩).val + 1 = place s n := inOrder_val s ⟨n, hc⟩
      omega)
    rw [← h]
    show n = ((inOrder s).symm (inOrder s ⟨n, hc⟩)).1
    rw [Equiv.symm_apply_apply]

/-- The chosen index of rank `q`. -/
def ranked (q : Fin 64) : Fin 512 := ((byRank s).symm q).1

/-- The chosen index of rank `q` has rank `q`. -/
theorem rank_ranked (q : Fin 64) : rank s (ranked s q) = q.val :=
  congrArg Fin.val ((byRank s).apply_symm_apply q)

/-- An index of rank `q` is the chosen index of rank `q`. -/
theorem eq_ranked_of_rank {n : Fin 512} {q : Fin 64} (h : rank s n = q.val) : n = ranked s q :=
  rank_injective s (h.trans (rank_ranked s q).symm)

/-- From a rank to the place in index order. -/
def reorder : Equiv.Perm (Fin 64) := (byRank s).symm.trans (inOrder s)

/-- Reordering from rank to index order finds the same index. -/
theorem pick_reorder (q : Fin 64) : pick s (reorder s q) = ranked s q :=
  congrArg Subtype.val ((inOrder s).symm_apply_apply ((byRank s).symm q))

/-- Different positions hold different chosen indices. -/
theorem pick_injective : Function.Injective (pick s) := fun _ _ h =>
  (inOrder s).symm.injective (Subtype.ext h)

end Cert.Select

end
-- ==== Proof.Mask.lean ====
/- The attention kernel's selection matrix: row `q` marks the `q`-th chosen group in index order, and nothing else. -/
module

public import proofs.«01_k».proof.Proof.Body
public import proofs.«01_k».proof.Proof.Select
public import Idealize.ShloMosaic.Lib.WordCmp

@[expose] public section

set_option maxRecDepth 16384

noncomputable section

namespace Cert.KernelIdeal.Body

open Idealize.ShloMosaic Cert.KernelIdeal Cert.KernelIdeal.Gen Cert.Select
open Classical

/-- A bit as a number. -/
def num (b : BitVec 1) : EReal := FloatOps.sitofp (F := Ideal) .f32 (BitVec.setWidth 32 b)

/-- A truth value's bit as a number: 1 or 0. -/
theorem num_ofBool (b : Bool) : num (BitVec.ofBool b) = if b = true then 1 else 0 := by
  show (((BitVec.setWidth 32 (BitVec.ofBool b)).toInt : ℝ) : EReal) = _
  cases b
  · show (((0 : Int) : ℝ) : EReal) = _
    simp
  · show (((1 : Int) : ℝ) : EReal) = _
    simp

/-- The conjunction of two truth values' bits. -/
theorem andi_ofBool (a b : Bool) : IntOp.andi (BitVec.ofBool a) (BitVec.ofBool b) = BitVec.ofBool (a && b) := by
  cases a <;> cases b <;> rfl

/-- The kernel's count of the groups ahead of group `i`. -/
def count (s : Fin 512 → EReal) (i : Fin 512) : EReal :=
  ∑ j : Fin 512, (num (BitVec.ofBool (decide (s i < s j))) +
    num (IntOp.andi (BitVec.ofBool (decide (s j = s i))) (IntOp.cmpi .slt (BitVec.ofNat 32 j.val) (BitVec.ofNat 32 i.val))))

/-- The kernel's count is the rank. -/
theorem count_eq (s : Fin 512 → EReal) (i : Fin 512) : count s i = ((rank s i : ℝ) : EReal) := by
  have h : ∀ j : Fin 512, (num (BitVec.ofBool (decide (s i < s j))) +
      num (IntOp.andi (BitVec.ofBool (decide (s j = s i))) (IntOp.cmpi .slt (BitVec.ofNat 32 j.val) (BitVec.ofNat 32 i.val))))
      = if Ahead s j i then (1 : EReal) else 0 := fun j => by
    have hj := j.isLt
    have hi := i.isLt
    rw [WordCmp.cmpi_slt_ofNat (by omega) (by omega), andi_ofBool, num_ofBool, num_ofBool]
    by_cases h1 : s i < s j
    · have h2 : ¬ s j = s i := ne_of_gt h1
      simp [h1, h2, Ahead]
    · by_cases h2 : s j = s i
      · by_cases h3 : j < i <;> simp [h2, h3, Ahead]
      · simp [h1, h2, Ahead]
  unfold count rank
  rw [Finset.sum_congr rfl fun j _ => h j, Finset.sum_boole]
  rfl

/-- The kernel's count is below 64 exactly at the chosen groups. -/
theorem count_lt_iff (s : Fin 512 → EReal) (i : Fin 512) : count s i < Ideal.ofBits .f32 0x42800000#32 ↔ Chosen s i := by
  rw [count_eq, Consts.lit_sixtyfour, EReal.coe_lt_coe_iff]
  unfold Chosen
  exact_mod_cast Iff.rfl

/-- The kernel's count of the chosen groups up to `n`. -/
theorem count_place (s : Fin 512 → EReal) (n : Fin 512) :
    (∑ x : Fin 512, num (IntOp.cmpi .sle (BitVec.ofNat 32 x.val) (BitVec.ofNat 32 n.val)) *
      num (BitVec.ofBool (decide (count s x < Ideal.ofBits .f32 0x42800000#32)))) = ((place s n : ℝ) : EReal) := by
  have h : ∀ x : Fin 512, num (IntOp.cmpi .sle (BitVec.ofNat 32 x.val) (BitVec.ofNat 32 n.val)) *
      num (BitVec.ofBool (decide (count s x < Ideal.ofBits .f32 0x42800000#32))) = if x ≤ n ∧ Chosen s x then (1 : EReal) else 0 := fun x => by
    have hx := x.isLt
    have hn := n.isLt
    rw [WordCmp.cmpi_sle_ofNat (by omega) (by omega), num_ofBool, num_ofBool]
    simp only [decide_eq_true_iff, count_lt_iff]
    by_cases h1 : x ≤ n
    · by_cases h2 : Chosen s x <;> simp [h1, h2]
    · have h1' : ¬ x.val ≤ n.val := h1
      simp [h1, h1']
  unfold place
  rw [Finset.sum_congr rfl fun x _ => h x, Finset.sum_boole]
  rfl

/-- The word the kernel makes of a count less one. -/
theorem word_pred (k : ℕ) (hk : 0 < k) (hk' : k ≤ 64) : Ideal.fptosi 32 (((k : ℝ) : EReal) - 1) = BitVec.ofNat 32 (k - 1) := by
  obtain ⟨j, rfl⟩ : ∃ j, k = j + 1 := ⟨k - 1, by omega⟩
  have h : (((j + 1 : ℕ) : ℝ) : EReal) - 1 = ((j : ℝ) : EReal) := by
    rw [← EReal.coe_one, ← EReal.coe_sub]
    congr 1
    push_cast
    ring
  rw [h]
  unfold Ideal.fptosi
  rw [Ideal.toIntClamped_coe, if_pos (by positivity), Int.floor_natCast]
  have : max (-((2 ^ (32 - 1) : ℕ) : Int)) (min (((2 ^ (32 - 1) : ℕ) : Int) - 1) (j : Int)) = (j : Int) := by
    norm_num
    omega
  rw [this]
  exact BitVec.ofInt_natCast 32 j

/-- The selection matrix at row `q` and group `n`: one if `n` is the `q`-th chosen group, else zero. -/
theorem mask_apply (x0 : Vec Ideal S1x512x128 .f32) (q : Fin 64) (n : Fin 512) :
    k1_pay3 x0 (ix2 q n) = if n = pick (fun i => x0 (ix3 0 i 0)) q then (1 : EReal) else 0 := by
  pointwise [k1_pay3]
  show num (IntOp.andi (IntOp.cmpi .eq (BitVec.ofNat 32 q.val) (Ideal.fptosi 32
      ((∑ x : Fin 512, num (IntOp.cmpi .sle (BitVec.ofNat 32 x.val) (BitVec.ofNat 32 n.val)) *
        num (BitVec.ofBool (decide (count (fun i => x0 (ix3 0 i 0)) x < Ideal.ofBits .f32 0x42800000#32)))) - 1)))
      (BitVec.ofBool (decide (Ideal.ofBits .f32 0x3F000000#32 <
        num (BitVec.ofBool (decide (count (fun i => x0 (ix3 0 i 0)) n < Ideal.ofBits .f32 0x42800000#32))))))) = _
  generalize (fun i => x0 (ix3 0 i 0)) = s
  rw [count_place, num_ofBool]
  simp only [decide_eq_true_iff, count_lt_iff]
  have hp : (n = pick s q) ↔ _ := eq_pick_iff s n q
  by_cases hc : Chosen s n
  · have h1 : Ideal.ofBits .f32 0x3F000000#32 < (if Chosen s n then (1 : EReal) else 0) := by
      rw [if_pos hc, Consts.lit_half, ← EReal.coe_one, EReal.coe_lt_coe_iff]
      norm_num
    rw [decide_eq_true h1, word_pred _ (place_pos s hc) (place_le s n)]
    have hpos := place_pos s hc
    have hle := place_le s n
    have hq := q.isLt
    have he : IntOp.cmpi .eq (BitVec.ofNat 32 q.val) (BitVec.ofNat 32 (place s n - 1))
        = BitVec.ofBool (decide (q.val = place s n - 1)) := by
      show BitVec.ofBool (_ == _) = _
      congr 1
      rw [beq_eq_decide, decide_eq_decide]
      constructor
      · intro h
        have := congrArg BitVec.toNat h
        simpa [Nat.mod_eq_of_lt (show q.val < 4294967296 by omega),
          Nat.mod_eq_of_lt (show place s n - 1 < 4294967296 by omega)] using this
      · intro h; rw [h]
    rw [he, andi_ofBool, num_ofBool]
    by_cases h : n = pick s q
    · have := (hp.1 h).2
      rw [if_pos h, if_pos (by simp; omega)]
    · rw [if_neg h, if_neg (by
        simp only [Bool.and_true, decide_eq_true_eq]
        intro h'
        exact h (hp.2 ⟨hc, by omega⟩))]
  · have h1 : ¬ Ideal.ofBits .f32 0x3F000000#32 < (if Chosen s n then (1 : EReal) else 0) := by
      rw [if_neg hc, Consts.lit_half, ← EReal.coe_zero, EReal.coe_lt_coe_iff]
      norm_num
    rw [decide_eq_false h1, if_neg fun h => hc (hp.1 h).1]
    generalize IntOp.cmpi _ _ _ = b
    have : IntOp.andi b (BitVec.ofBool false) = BitVec.ofBool false := by
      rcases (by decide : ∀ b : BitVec 1, b = 0#1 ∨ b = 1#1) b with rfl | rfl <;> rfl
    rw [this, num_ofBool]
    simp

end Cert.KernelIdeal.Body

end
-- ==== Proof.KernelResult.lean ====
/- What the kernel's result holds at a token: the attention output of the token's group if the group is chosen, else 0. -/
module

public import proofs.«01_k».proof.Proof.KernelValue
public import proofs.«01_k».proof.Proof.Mask

@[expose] public section

set_option maxRecDepth 16384

noncomputable section

namespace Cert.KernelIdeal.Arrays

open Idealize.ShloMosaic Idealize.ShloMosaic.TcCoe Cert.KernelIdeal Cert.KernelIdeal.Gen Cert.KernelIdeal.Body Cert.Spec Cert.Select
open Classical

/-- A selection matrix picks the chosen groups' rows, in index order. -/
theorem picked_eq (x0 : Vec Ideal S1x512x128 .f32) (x1 : Vec Ideal S1x512x1024 .f32) (q : Fin 64) :
    picked (k1_pay3 x0) x1 q = fun d => x1 (ix3 0 (pick (fun i => x0 (ix3 0 i 0)) q) d) := by
  funext d
  unfold picked
  refine (Finset.sum_eq_single (pick (fun i => x0 (ix3 0 i 0)) q) (fun n _ hn => ?_) fun h => absurd (Finset.mem_univ _) h).trans ?_
  · rw [mask_apply, if_neg hn, zero_mul]
  · rw [mask_apply, if_pos rfl, one_mul]

/-- The group a token belongs to. -/
def groupOf (t : Fin 8192) : Fin 512 := ⟨t.val / 16, by omega⟩

section Result

variable (x : S2x8192x1024.Idx → EReal) (wq wk wv wo : S1024x1024.Idx → EReal) (w1 : S256x1024.Idx → EReal)
  (b1 : S256.Idx → EReal) (w2 : S1x256.Idx → EReal)

/-- The groups' scores in batch `b`. -/
def scores (b : Fin 2) (n : Fin 512) : EReal :=
  score (at2 w1) (fun e => b1 (ix1 e)) (at2 w2 0) (mean (at3 x) b n)

/-- The kernel's result at an index, as a sum over the chosen groups of which at most one term is not 0. -/
theorem result_sum (b : Fin 2) (t : Fin 8192) (e : Fin 1024) :
    result x wq wk wv wo w1 b1 w2 (ix3 b t e) = ∑ q : Fin 64, (if groupOf t = pick (scores x w1 b1 w2 b) q then (1 : EReal) else 0) *
      att (at2 wq) (at2 wk) (at2 wv) (at2 wo) (fun q => mean (at3 x) b (pick (scores x w1 b1 w2 b) q)) q e := by
  show attOf _ _ wq wk wv wo (ix3 b (groupOf t) e) = _
  unfold attOf
  refine Finset.sum_congr rfl fun q _ => ?_
  refine congrArg₂ (fun u v : EReal => u * v) (mask_apply (batch (scoresOf x w1 (fun j => b1 (ix1 (j 1))) w2) b) q (groupOf t)) ?_
  refine congrArg (fun rows => att (at2 wq) (at2 wk) (at2 wv) (at2 wo) rows q e) (funext fun q => ?_)
  exact picked_eq (batch (scoresOf x w1 (fun j => b1 (ix1 (j 1))) w2) b) (batch (meansOf x) b) q

/-- At a token of the `q`-th chosen group (in index order): the attention's row `q`. -/
theorem result_chosen (b : Fin 2) (t : Fin 8192) (e : Fin 1024) (q : Fin 64) (h : groupOf t = pick (scores x w1 b1 w2 b) q) :
    result x wq wk wv wo w1 b1 w2 (ix3 b t e)
      = att (at2 wq) (at2 wk) (at2 wv) (at2 wo) (fun q => mean (at3 x) b (pick (scores x w1 b1 w2 b) q)) q e := by
  rw [result_sum]
  refine (Finset.sum_eq_single q (fun p _ hp => ?_) fun h => absurd (Finset.mem_univ _) h).trans ?_
  · rw [if_neg fun h' => hp (pick_injective _ (h'.symm.trans h)), zero_mul]
  · rw [if_pos h, one_mul]

/-- At a token of the group of rank `q`: row `q` of the attention over the groups in the order of rank. -/
theorem result_ranked (b : Fin 2) (t : Fin 8192) (e : Fin 1024) (q : Fin 64) (h : groupOf t = ranked (scores x w1 b1 w2 b) q) :
    result x wq wk wv wo w1 b1 w2 (ix3 b t e)
      = att (at2 wq) (at2 wk) (at2 wv) (at2 wo) (fun q => mean (at3 x) b (ranked (scores x w1 b1 w2 b) q)) q e := by
  rw [result_chosen x wq wk wv wo w1 b1 w2 b t e (reorder (scores x w1 b1 w2 b) q) (h.trans (pick_reorder _ q).symm), ← att_perm]
  simp only [pick_reorder]

/-- At a token of a group that is not chosen: 0. -/
theorem result_other (b : Fin 2) (t : Fin 8192) (e : Fin 1024) (h : ∀ q, groupOf t ≠ ranked (scores x w1 b1 w2 b) q) :
    result x wq wk wv wo w1 b1 w2 (ix3 b t e) = 0 := by
  rw [result_sum]
  refine Finset.sum_eq_zero fun q _ => ?_
  rw [if_neg fun h' => ?_, zero_mul]
  refine h ((reorder (scores x w1 b1 w2 b)).symm q) (h'.trans ?_)
  rw [← pick_reorder, Equiv.apply_symm_apply]

end Result

end Cert.KernelIdeal.Arrays

end
-- ==== Proof.RefScores.lean ====
/- The reference's group means and scores. -/
module

public import proofs.«01_k».proof.Proof.KernelResult
public import proofs.«01_k».proof.Proof.Gen.ReferenceIdeal.Read
public import Idealize.ShloMosaic.Lib.Pointwise

@[expose] public section

set_option maxRecDepth 16384

noncomputable section

namespace Cert.ReferenceIdeal.Math

open Idealize.ShloMosaic Cert.ReferenceIdeal Cert.ReferenceIdeal.Read Cert.Spec Cert.Select
open Cert.KernelIdeal.Arrays (at2 at3 scores)

section
variable (x0 : S2x8192x1024.Idx → EReal) (x5 : S256x1024.Idx → EReal) (x6 : S256.Idx → EReal) (x7 : S1x256.Idx → EReal) (x8 : S1.Idx → EReal)

/-- The reference's group means. -/
theorem means_apply (b : Fin 2) (n : Fin 512) (d : Fin 1024) : val_main_v3 (F := Ideal) x0 (ix3 b n d) = mean (at3 x0) b n d := by
  pointwise [val_main_v3, val_main_v2, val_main_v1, val_main_v0, val_main_cst, val_main_cst_0]
  rw [Consts.lit_sixteen, Ideal.div_coe (by norm_num)]
  rfl

/-- The reference's scores before the softmax: the groups' scores plus the last bias. -/
theorem biased_apply (b : Fin 2) (n : Fin 512) :
    val_main_v15 (F := Ideal) x0 x5 x6 x7 x8 (ix2 b n) = scores x0 x5 x6 x7 b n + x8 (ix1 0) := by
  pointwise [val_main_v15, val_main_v14, val_main_v13, val_main_v12, val_main_v11, val_main_v10, val_main_v9, val_main_call0_v0,
    val_main_call0_cst, val_main_v8, val_main_v7, val_main_v6, val_main_v5, val_main_v4]
  simp only [means_apply]
  rfl

/-- The largest of 512 values, not below the least. -/
def top (y : Fin 512 → EReal) : EReal := max ⊥ (Finset.fold max ⊥ y Finset.univ)

/-- A softmax over the 512 groups. -/
def softmax (y : Fin 512 → EReal) (n : Fin 512) : EReal :=
  Ideal.div (Ideal.exp (y n - top y)) (∑ x : Fin 512, Ideal.exp (y x - top y))

/-- The reference's probabilities: the softmax of the biased scores. -/
theorem prob_apply (b : Fin 2) (n : Fin 512) :
    val_main_v26 (F := Ideal) x0 x5 x6 x7 x8 (ix2 b n) = softmax (fun x => scores x0 x5 x6 x7 b x + x8 (ix1 0)) n := by
  pointwise [val_main_v26, val_main_v25, val_main_v24, val_main_v23, val_main_v22, val_main_v21, val_main_v20, val_main_v19,
    val_main_v18, val_main_v17, val_main_v16, val_main_cst_1, val_main_cst_2, val_main_cst_3]
  simp only [biased_apply, Consts.lit_bot]
  rfl

end

/-! ## The softmax keeps the order of real scores -/

/-- The largest of 512 real values is real. -/
theorem top_coe (r : Fin 512 → ℝ) : ∃ m : ℝ, top (fun n => (r n : EReal)) = (m : EReal) := by
  have h : top (fun n => (r n : EReal)) = Finset.univ.sup fun n => (r n : EReal) := bot_sup_eq _
  rw [h]
  have h1 : (Finset.univ.sup fun n => (r n : EReal)) ≠ ⊤ :=
    ((Finset.sup_lt_iff (EReal.coe_lt_top 0 |>.trans_le' bot_le)).2 fun n _ => EReal.coe_lt_top (r n)).ne
  have h2 : (Finset.univ.sup fun n => (r n : EReal)) ≠ ⊥ := fun h => by
    have := Finset.le_sup (f := fun n => (r n : EReal)) (Finset.mem_univ (0 : Fin 512))
    rw [h] at this
    exact EReal.coe_ne_bot _ (le_bot_iff.1 this)
  exact ⟨_, (EReal.coe_toReal h1 h2).symm⟩

/-- A sum of exponentials is positive. -/
theorem sum_exp_pos {n : ℕ} (j : Fin n) (f : Fin n → ℝ) : 0 < ∑ x, Real.exp (f x) :=
  Finset.sum_pos (fun _ _ => Real.exp_pos _) ⟨j, Finset.mem_univ j⟩

/-- A sum of reals, as an extended real. -/
theorem coe_sum {n : ℕ} (f : Fin n → ℝ) : (∑ x, (f x : EReal)) = ((∑ x, f x : ℝ) : EReal) :=
  (map_sum (⟨⟨Real.toEReal, EReal.coe_zero⟩, EReal.coe_add⟩ : ℝ →+ EReal) f Finset.univ).symm

/-- A softmax orders real values as they are ordered. -/
theorem softmax_lt (r : Fin 512 → ℝ) (i j : Fin 512) :
    softmax (fun n => (r n : EReal)) j < softmax (fun n => (r n : EReal)) i ↔ r j < r i := by
  obtain ⟨m, hm⟩ := top_coe r
  have he : ∀ n, Ideal.exp ((r n : EReal) - top (fun n => (r n : EReal))) = ((Real.exp (r n - m) : ℝ) : EReal) := fun n => by
    rw [hm, ← EReal.coe_sub, Ideal.exp_coe]
  have hs : (∑ x : Fin 512, Ideal.exp ((r x : EReal) - top (fun n => (r n : EReal)))) = ((∑ x : Fin 512, Real.exp (r x - m) : ℝ) : EReal) := by
    simp only [he]
    exact coe_sum fun x => Real.exp (r x - m)
  have hpos : 0 < ∑ x : Fin 512, Real.exp (r x - m) := sum_exp_pos i fun x => r x - m
  have hp : ∀ n, softmax (fun n => (r n : EReal)) n = ((Real.exp (r n - m) * (1 / ∑ x : Fin 512, Real.exp (r x - m)) : ℝ) : EReal) := fun n => by
    unfold softmax
    rw [hs, he, Ideal.div_coe hpos.ne', ← EReal.coe_mul]
  rw [hp, hp, EReal.coe_lt_coe_iff, mul_lt_mul_iff_left₀ (one_div_pos.2 hpos), Real.exp_lt_exp]
  constructor <;> intro h <;> linarith

end Cert.ReferenceIdeal.Math

end
-- ==== Proof.TopK.lean ====
/- The reference's top-k: the stable sort by a decreasing key puts the groups in the order of their ranks. -/
module

public import proofs.«01_k».proof.Proof.Select
public import proofs.«01_k».proof.Proof.Gen.ReferenceIdeal.Read
public import Idealize.ShloMosaic.Lib.SortFacts
public import Idealize.ShloMosaic.Lib.Pointwise

@[expose] public section

noncomputable section

namespace Cert.Select

open Idealize.ShloMosaic
open Cert.ReferenceIdeal (S2x512 S2x64)
open Classical

variable (s : Fin 512 → EReal) (before : Fin 512 → Fin 512 → Bool)

/-- Inserting a group, of smaller index than all in the list, keeps the list in the order of `Ahead`. -/
theorem pairwise_insert (hb : ∀ a b, before a b = true ↔ s b < s a) (a : Fin 512) (l : List (Fin 512))
    (ha : ∀ b ∈ l, a < b) (hl : l.Pairwise (Ahead s)) : (insertBefore before a l).Pairwise (Ahead s) := by
  induction l with
  | nil => exact List.pairwise_singleton _ _
  | cons b l ih =>
    obtain ⟨h1, h2⟩ := List.pairwise_cons.1 hl
    unfold insertBefore
    split
    · rename_i h
      refine List.pairwise_cons.2 ⟨fun x hx => ?_, ih (fun x hx => ha x (List.mem_cons_of_mem _ hx)) h2⟩
      rcases List.mem_cons.1 ((perm_insertBefore before a l).mem_iff.1 hx) with rfl | hx
      · exact Or.inl ((hb _ _).1 h)
      · exact h1 x hx
    · rename_i h
      have hab : Ahead s a b := by
        rcases lt_or_eq_of_le (not_lt.1 fun h' => h ((hb _ _).2 h')) with h' | h'
        · exact Or.inl h'
        · exact Or.inr ⟨h'.symm, ha b List.mem_cons_self⟩
      refine List.pairwise_cons.2 ⟨fun x hx => ?_, hl⟩
      rcases List.mem_cons.1 hx with rfl | hx
      · exact hab
      · exact ahead_trans s hab (h1 x hx)

/-- The stable sort of an increasing list is in the order of `Ahead`. -/
theorem pairwise_sort (hb : ∀ a b, before a b = true ↔ s b < s a) (l : List (Fin 512)) (hl : l.Pairwise (· < ·)) :
    (stableSort before l).Pairwise (Ahead s) := by
  induction l with
  | nil => exact List.Pairwise.nil
  | cons a l ih =>
    obtain ⟨h1, h2⟩ := List.pairwise_cons.1 hl
    unfold stableSort
    exact pairwise_insert s before hb a _ (fun b hb' => h1 b ((perm_stableSort before l).mem_iff.1 hb')) (ih h2)

/-- A relation that holds pairwise along the sorted positions, read at two of them. -/
theorem sortedFrom_pairwise {n : Nat} (before : Fin n → Fin n → Bool) (R : Fin n → Fin n → Prop)
    (hp : (sortPositions n before).Pairwise R) {i j : Fin n} (h : i < j) : R (sortedFrom before i) (sortedFrom before j) := by
  have hg : ∀ a b : Fin (sortPositions n before).length, a < b → R ((sortPositions n before).get a) ((sortPositions n before).get b) :=
    fun a b hab => List.pairwise_iff_get.1 hp a b hab
  exact hg _ _ h

/-- The positions are listed in increasing order. -/
theorem finRange_increasing (n : Nat) : (List.finRange n).Pairwise (· < ·) := List.pairwise_lt_finRange n

/-- An earlier sorted position holds a group ahead of a later one's. -/
theorem sortedFrom_ahead (hb : ∀ a b, before a b = true ↔ s b < s a) {i j : Fin 512} (h : i < j) :
    Ahead s (sortedFrom before i) (sortedFrom before j) := by
  exact sortedFrom_pairwise before (Ahead s) (pairwise_sort s before hb _ (finRange_increasing 512)) h

/-- The group at sorted position `k` is the one of rank `k`. -/
theorem rank_sortedFrom (hb : ∀ a b, before a b = true ↔ s b < s a) (k : Fin 512) : rank s (sortedFrom before k) = k.val := by
  let f : Fin 512 → Fin 512 := fun k => ⟨rank s (sortedFrom before k), rank_lt s _⟩
  have hf : StrictMono f := fun i j h => (rank_lt_iff s).2 (sortedFrom_ahead s before hb h)
  exact congrArg Fin.val (le_antisymm (hf.apply_le (x := k)) (hf.le_apply (x := k)))

/-- A sort of two operands, at the second: its element at the sorted position, the comparisons given as `B`. -/
theorem sort2_second {t : Shape} (d : Nat) (hd : d < t.rank) {α β : Type} (cmp : α × β → α × β → BitVec 1) (x : t.Idx → α)
    (y : t.Idx → β) (J : t.Idx) (B : Fin (t.size ⟨d, hd⟩) → Fin (t.size ⟨d, hd⟩) → Bool)
    (hB : ∀ k k', (cmp (x (J.along ⟨d, hd⟩ k), y (J.along ⟨d, hd⟩ k)) (x (J.along ⟨d, hd⟩ k'), y (J.along ⟨d, hd⟩ k')) == 1#1) = B k k') :
    (Host.sort2 t d cmp x y).2 J = y (J.along ⟨d, hd⟩ (sortedFrom B (J ⟨d, hd⟩))) := by
  obtain rfl := (funext fun k => funext fun k' => hB k k' : _ = B)
  unfold Host.sort2
  rw [dif_pos hd]

/-- The index a top-k along the last of two axes gives at `q`: the sorted position's. -/
theorem topK_second {n m : Nat} (hnm : m ≤ n) (gt : EReal → EReal → BitVec 1) (x : Shape.Idx ⟨2, ![2, n]⟩ → EReal)
    (h : Shape.Slices ⟨2, ![2, n]⟩ (fun _ => 0) ⟨2, ![2, m]⟩) (b : Fin 2) (q : Fin m) :
    (Host.topK ⟨2, ![2, m]⟩ 1 gt x h).2 (ix2 b q)
      = BitVec.ofNat 32 (sortedFrom (fun k k' => gt (x (ix2 b k)) (x (ix2 b k')) == 1#1) (Fin.castLE hnm q)).val := by
  have ha : ∀ k : Fin n, Shape.Idx.along (s := ⟨2, ![2, n]⟩) (ix2 b (Fin.castLE hnm q)) 1 k = ix2 b k := fun k => by
    funext a
    match a with
    | ⟨0, _⟩ => rfl
    | ⟨1, _⟩ => rfl
  have hS : ∀ J : Shape.Idx ⟨2, ![2, n]⟩, J = ix2 b (Fin.castLE hnm q) →
      (Host.sort2 ⟨2, ![2, n]⟩ 1 (fun l r : EReal × BitVec 32 => gt l.1 r.1) x
        (fun i => if hd : 1 < (⟨2, ![2, n]⟩ : Shape).rank then iotaInDim ⟨2, ![2, n]⟩ 32 ⟨1, hd⟩ i else 0#32)).2 J
      = BitVec.ofNat 32 (sortedFrom (fun k k' => gt (x (ix2 b k)) (x (ix2 b k')) == 1#1) (Fin.castLE hnm q)).val := by
    rintro J rfl
    refine (sort2_second (t := ⟨2, ![2, n]⟩) 1 Nat.one_lt_two _ x _ (ix2 b (Fin.castLE hnm q))
      (fun k k' => gt (x (ix2 b k)) (x (ix2 b k')) == 1#1) fun k k' => ?_).trans ?_
    · exact congrArg₂ (fun u v => gt (x u) (x v) == 1#1) (ha k) (ha k')
    · rw [dif_pos (show 1 < (⟨2, ![2, n]⟩ : Shape).rank from Nat.one_lt_two)]
      exact congrArg (fun k : Fin n => BitVec.ofNat 32 k.val) (Function.update_self ..)
  refine hS _ ?_
  funext a
  match a with
  | ⟨0, _⟩ => exact Fin.ext (Nat.zero_add _)
  | ⟨1, _⟩ => exact Fin.ext (Nat.zero_add _)

/-- The top-k's index at `q`, of a key that orders the groups as `s` does: the group of rank `q`. -/
theorem topK_index (x : S2x512.Idx → EReal) (b : Fin 2) (h : S2x512.Slices (fun _ => 0) S2x64)
    (hx : ∀ i j, x (ix2 b j) < x (ix2 b i) ↔ s j < s i) (q : Fin 64) :
    (Host.topK S2x64 1 (FloatOps.cmpfTotal (F := Ideal) (φ := .f32) .gt) x h).2 (ix2 b q) = BitVec.ofNat 32 (ranked s q).val := by
  refine (topK_second (by decide) _ x h b q).trans (congrArg (fun k : Fin 512 => BitVec.ofNat 32 k.val) ?_)
  refine eq_ranked_of_rank s ((rank_sortedFrom s _ (fun k k' => ?_) _).trans rfl)
  rw [← hx]
  show (BitVec.ofBool (decide _) == 1#1) = true ↔ _
  rw [beq_iff_eq]
  by_cases h : x (ix2 b k') < x (ix2 b k)
  · simp [h]
  · simp [h]

end Cert.Select

end
-- ==== Proof.RefSelect.lean ====
/- The rows the reference selects: the groups of rank 0 to 63, in that order, where the scores are real numbers or all
   the same infinity. -/
module

public import proofs.«01_k».proof.Proof.RefScores
public import proofs.«01_k».proof.Proof.TopK
public import Idealize.ShloMosaic.Lib.Routing.OpsPair

@[expose] public section

set_option maxRecDepth 16384

noncomputable section

namespace Cert.ReferenceIdeal.Math

open Idealize.ShloMosaic Cert.ReferenceIdeal Cert.ReferenceIdeal.Read Cert.Spec Cert.Select
open Cert.KernelIdeal.Arrays (at2 at3 scores)

/-! ## Real values -/

/-- An extended real that is a real number. -/
def IsReal (x : EReal) : Prop := ∃ r : ℝ, x = (r : EReal)

/-- A real number, as an extended real, is real. -/
theorem IsReal.coe (r : ℝ) : IsReal (r : EReal) := ⟨r, rfl⟩
/-- A sum of two real values is real. -/
theorem IsReal.add {x y : EReal} : IsReal x → IsReal y → IsReal (x + y) := by
  rintro ⟨a, rfl⟩ ⟨b, rfl⟩
  exact ⟨a + b, (EReal.coe_add a b).symm⟩
/-- A product of two real values is real. -/
theorem IsReal.mul {x y : EReal} : IsReal x → IsReal y → IsReal (x * y) := by
  rintro ⟨a, rfl⟩ ⟨b, rfl⟩
  exact ⟨a * b, (EReal.coe_mul a b).symm⟩
/-- A rectified real value is real. -/
theorem IsReal.max_zero {x : EReal} : IsReal x → IsReal (max x 0) := fun h => by
  rcases max_choice x 0 with h' | h' <;> rw [h']
  · exact h
  · exact ⟨0, rfl⟩
/-- A finite sum of real values is real. -/
theorem IsReal.sum {n : ℕ} {f : Fin n → EReal} (h : ∀ i, IsReal (f i)) : IsReal (∑ i, f i) := by
  choose r hr using h
  exact ⟨∑ i, r i, (Finset.sum_congr rfl fun i _ => hr i).trans (coe_sum r)⟩

section
variable {x0 : S2x8192x1024.Idx → EReal} {x5 : S256x1024.Idx → EReal} {x6 : S256.Idx → EReal} {x7 : S1x256.Idx → EReal} {x8 : S1.Idx → EReal}

/-- A family of extended reals that is real throughout, or one and the same infinity throughout. -/
def RealOrInf {ι : Type} (f : ι → EReal) : Prop := (∀ i, IsReal (f i)) ∨ (∀ i, f i = ⊤) ∨ ∀ i, f i = ⊥

/-- Such families are closed under addition. -/
theorem RealOrInf.add {ι : Type} {f g : ι → EReal} : RealOrInf f → RealOrInf g → RealOrInf fun i => f i + g i := by
  rintro (hf | hf | hf) (hg | hg | hg)
  · exact .inl fun i => (hf i).add (hg i)
  · exact .inr <| .inl fun i => by
      obtain ⟨r, hr⟩ := hf i
      beta_reduce
      rw [hr, hg, EReal.coe_add_top]
  · exact .inr <| .inr fun i => by beta_reduce; rw [hg, EReal.add_bot]
  · exact .inr <| .inl fun i => by
      obtain ⟨r, hr⟩ := hg i
      beta_reduce
      rw [hr, hf, EReal.top_add_coe]
  · exact .inr <| .inl fun i => by beta_reduce; rw [hf, hg, EReal.top_add_top]
  · exact .inr <| .inr fun i => by beta_reduce; rw [hg, EReal.add_bot]
  · exact .inr <| .inr fun i => by beta_reduce; rw [hf, EReal.bot_add]
  · exact .inr <| .inr fun i => by beta_reduce; rw [hf, EReal.bot_add]
  · exact .inr <| .inr fun i => by beta_reduce; rw [hf, EReal.bot_add]

/-- And under finite sums. -/
theorem RealOrInf.sum {ι : Type} {n : ℕ} {f : Fin n → ι → EReal} (h : ∀ e, RealOrInf (f e)) : RealOrInf fun i => ∑ e, f e i := by
  induction n with
  | zero => exact .inl fun i => ⟨0, by simp⟩
  | succ n ih =>
    simp only [Fin.sum_univ_succ]
    exact (h 0).add (ih fun e => h e.succ)

/-- A hidden unit times its real weight `w`, over real inputs `f` and any bias `β`: real throughout, or one infinity. -/
theorem RealOrInf.unit {ι : Type} {f : ι → EReal} (hf : ∀ i, IsReal (f i)) (β : EReal) {w : EReal} (hw : IsReal w) :
    RealOrInf fun i => max (f i + β) 0 * w := by
  obtain ⟨r, rfl⟩ := hw
  rcases eq_or_ne β ⊤ with rfl | h1
  · have hm : ∀ i, max (f i + ⊤) 0 = ⊤ := fun i => by
      obtain ⟨a, ha⟩ := hf i
      rw [ha, EReal.coe_add_top]
      exact max_eq_left le_top
    simp only [hm]
    rcases lt_trichotomy r 0 with hr | rfl | hr
    · exact .inr <| .inr fun _ => EReal.top_mul_coe_of_neg hr
    · exact .inl fun _ => ⟨0, by rw [EReal.coe_zero, mul_zero]⟩
    · exact .inr <| .inl fun _ => EReal.top_mul_coe_of_pos hr
  · rcases eq_or_ne β ⊥ with rfl | h2
    · exact .inl fun i => ⟨0, by beta_reduce; rw [EReal.add_bot, max_eq_right bot_le, zero_mul]; rfl⟩
    · exact .inl fun i => (((hf i).add ⟨β.toReal, (EReal.coe_toReal h1 h2).symm⟩).max_zero).mul (IsReal.coe r)

/-- Real tokens and weights make the groups' scores real, or all the same infinity. -/
theorem scores_real_or_inf (h0 : ∀ i, IsReal (x0 i)) (h5 : ∀ i, IsReal (x5 i)) (h7 : ∀ i, IsReal (x7 i)) (b : Fin 2) :
    RealOrInf (scores x0 x5 x6 x7 b) :=
  RealOrInf.sum fun e => RealOrInf.unit (f := fun n => ∑ d, mean (at3 x0) b n d * at2 x5 e d)
    (fun n => IsReal.sum fun d => ((IsReal.sum fun s => h0 (ix3 b (token n s) d)).mul (IsReal.coe _)).mul (h5 (ix2 e d)))
    (x6 (ix1 e)) (h7 (ix2 0 e))

/-- The softmax of the scores plus a real bias orders the groups as the scores do: the two have the same strict order
where the scores are real, and both are constant where the scores are all the same. -/
theorem softmax_biased_lt {s : Fin 512 → EReal} (hs : RealOrInf s) {β : EReal} (hβ : IsReal β) (i j : Fin 512) :
    softmax (fun n => s n + β) j < softmax (fun n => s n + β) i ↔ s j < s i := by
  have hc : (∀ n, s n = s i) → (softmax (fun n => s n + β) j < softmax (fun n => s n + β) i ↔ s j < s i) := fun h => by
    have hp : softmax (fun n => s n + β) j = softmax (fun n => s n + β) i :=
      congrArg (fun u => Ideal.div (Ideal.exp (u + β - top fun n => s n + β)) (∑ x : Fin 512, Ideal.exp (s x + β - top fun n => s n + β))) (h j)
    rw [hp, h j]
    exact iff_of_false (lt_irrefl _) (lt_irrefl _)
  rcases hs with hs | hs | hs
  · choose r hr using hs
    obtain ⟨β, rfl⟩ := hβ
    have hy : (fun n => s n + (β : EReal)) = fun n => ((r n + β : ℝ) : EReal) := by
      funext n
      rw [hr, ← EReal.coe_add]
    rw [hy, softmax_lt, hr, hr, EReal.coe_lt_coe_iff]
    constructor <;> intro h <;> linarith
  · exact hc fun n => (hs n).trans (hs i).symm
  · exact hc fun n => (hs n).trans (hs i).symm

/-- The reference's top-k indices: the groups by rank. -/
theorem index_apply (h0 : ∀ i, IsReal (x0 i)) (h5 : ∀ i, IsReal (x5 i)) (h7 : ∀ i, IsReal (x7 i))
    (h8 : ∀ i, IsReal (x8 i)) (b : Fin 2) (q : Fin 64) :
    val_main_indices (F := Ideal) x0 x5 x6 x7 x8 (ix2 b q) = BitVec.ofNat 32 (ranked (scores x0 x5 x6 x7 b) q).val := by
  refine topK_index (scores x0 x5 x6 x7 b) (val_main_v26 (F := Ideal) x0 x5 x6 x7 x8) b _ (fun i j => ?_) q
  rw [prob_apply, prob_apply]
  exact softmax_biased_lt (scores_real_or_inf h0 h5 h7 b) (h8 (ix1 0)) i j

end

/-- The gather, at an index whose word names a group: that group's row. -/
theorem gather_row (x : S2x512x1024.Idx → EReal) (idx : IVec S2x64x1 32) (b : Fin 2) (q : Fin 64) (d : Fin 1024) (n : Fin 512)
    (h : idx (ix3 b q 0) = BitVec.ofNat 32 n.val) :
    Host.gather gather_S2x512x1024_S2x64x1_S2x64x1024_2_1_0_0_1_2_111024 x idx (ix3 b q d) = x (ix3 b n d) := by
  have hn := n.isLt
  unfold Host.gather
  refine congrArg x (funext fun a => Fin.ext ?_)
  match a with
  | ⟨0, _⟩ =>
    show 0 + b.val + 0 = b.val
    omega
  | ⟨1, _⟩ =>
    have hsi : gather_S2x512x1024_S2x64x1_S2x64x1024_2_1_0_0_1_2_111024.siIdx (ix3 b q d) ⟨0, Nat.one_pos⟩ = ix3 b q 0 := by
      funext a
      match a with
      | ⟨0, _⟩ => rfl
      | ⟨1, _⟩ => rfl
      | ⟨2, _⟩ => rfl
    show min (idx (gather_S2x512x1024_S2x64x1_S2x64x1024_2_1_0_0_1_2_111024.siIdx (ix3 b q d) ⟨0, Nat.one_pos⟩)).toInt.toNat 511 + 0 + 0 = n.val
    rw [hsi, h, BitVec.toInt_eq_toNat_of_lt (by rw [BitVec.toNat_ofNat]; omega), BitVec.toNat_ofNat]
    omega
  | ⟨2, _⟩ =>
    show 0 + 0 + d.val = d.val
    omega

/-- A group's index word is left alone by the wrap of negative indices. -/
theorem word_wrap (n : Fin 512) (a : BitVec 32) :
    Scalar.select (IntOp.cmpi .slt (BitVec.ofNat 32 n.val) 0#32) a (BitVec.ofNat 32 n.val) = BitVec.ofNat 32 n.val :=
  Routing.wrap_of_lt _ _ (by rw [BitVec.toNat_ofNat]; omega)

/-- A group's index word passes the range check from 0 to 511. -/
theorem word_in_range (n : Fin 512) :
    IntOp.andi (IntOp.cmpi .sge (BitVec.ofNat 32 n.val) 0#32) (IntOp.cmpi .sle (BitVec.ofNat 32 n.val) 511#32) = 1#1 := by
  have hn := n.isLt
  have h1 : IntOp.cmpi .sge (BitVec.ofNat 32 n.val) 0#32 = 1#1 := by
    show BitVec.ofBool (decide ((0#32 : BitVec 32).toInt ≤ (BitVec.ofNat 32 n.val).toInt)) = 1#1
    rw [decide_eq_true]
    · rfl
    · rw [BitVec.toInt_eq_toNat_of_lt (x := BitVec.ofNat 32 n.val) (by rw [BitVec.toNat_ofNat]; omega)]
      exact Int.natCast_nonneg _
  have h2 : IntOp.cmpi .sle (BitVec.ofNat 32 n.val) 511#32 = 1#1 := by
    rw [show (511#32 : BitVec 32) = BitVec.ofNat 32 511 from rfl, WordCmp.cmpi_sle_ofNat (by omega) (by norm_num), decide_eq_true (by omega)]
    rfl
  rw [h1, h2]
  rfl

section
variable {x0 : S2x8192x1024.Idx → EReal} {x5 : S256x1024.Idx → EReal} {x6 : S256.Idx → EReal} {x7 : S1x256.Idx → EReal} {x8 : S1.Idx → EReal}

/-- The selected rows: the means of the groups of rank 0 to 63. -/
theorem sel_apply (h0 : ∀ i, IsReal (x0 i)) (h5 : ∀ i, IsReal (x5 i)) (h7 : ∀ i, IsReal (x7 i))
    (h8 : ∀ i, IsReal (x8 i)) (b : Fin 2) (q : Fin 64) (d : Fin 1024) :
    val_main_v28 (F := Ideal) x0 x5 x6 x7 x8 (ix3 b q d) = mean (at3 x0) b (ranked (scores x0 x5 x6 x7 b) q) d := by
  have hi := index_apply (x6 := x6) h0 h5 h7 h8 b q
  have h4 : val_main_call1_v4 (F := Ideal) x0 x5 x6 x7 x8 (ix3 b q 0) = BitVec.ofNat 32 (ranked (scores x0 x5 x6 x7 b) q).val := by
    pointwise [val_main_call1_v4, val_main_call1_v3, val_main_call1_v2, val_main_call1_v1, val_main_call1_v0, val_main_call1_c,
      val_main_call1_c_0, val_main_v27]
    rw [hi]
    exact word_wrap _ _
  have h10 : val_main_call1_v11 (F := Ideal) x0 x5 x6 x7 x8 (ix2 b q) = 1#1 := by
    pointwise [val_main_call1_v11, val_main_call1_v10, val_main_call1_v9, val_main_call1_v8, val_main_call1_v7, val_main_call1_v6,
      val_main_call1_v5, val_main_call1_c_1, val_main_call1_c_2, val_main_call1_c_3]
    have hz : ∀ z : Fin 1, val_main_call1_v4 (F := Ideal) x0 x5 x6 x7 x8 (ix3 b q z) = BitVec.ofNat 32 (ranked (scores x0 x5 x6 x7 b) q).val :=
      fun z => by
        obtain rfl : z = 0 := Subsingleton.elim _ _
        exact h4
    simp only [hz, word_in_range]
    rw [Finset.univ_unique, Finset.fold_singleton]
    rfl
  have h12 := gather_row (val_main_v3 (F := Ideal) x0) (val_main_call1_v4 (F := Ideal) x0 x5 x6 x7 x8) b q d _ h4
  pointwise [val_main_v28, val_main_call1_v13, val_main_call1_v12]
  rw [h10, h12, means_apply]
  rfl

end

end Cert.ReferenceIdeal.Math

end
-- ==== Proof.Finite.lean ====
/- The precondition `finite`, read: every entry of the tokens, of the scoring network's weights and of
   its last bias is a real number. -/
module

public import proofs.«01_k».proof.Pre_finite
public import proofs.«01_k».proof.Proof.Consts
public import proofs.«01_k».proof.Proof.RefSelect
public import Idealize.ShloMosaic.Lib.Pointwise

@[expose] public section

noncomputable section

namespace Cert.Pre_finite

open Idealize.ShloMosaic Cert.ReferenceIdeal.Math

/-- The shape relations the precondition's operations take. -/
theorem facts : Facts where
  bcast_S_S2x8192x1024 := by decide
  bcast_S_S256x1024 := by decide
  bcast_S_S1x256 := by decide
  bcast_S_S1 := by decide

/-- The comparison `finite` makes of one entry, where it comes out true: the entry is a real number. -/
theorem real_of_lt (x : EReal) (h : BitVec.ofBool (decide (max x (-x) < Ideal.ofBits .f32 0x7F800000#32)) = 1#1) : IsReal x := by
  have h' : max x (-x) < ⊤ := by
    by_contra hc
    rw [Consts.lit_top, decide_eq_false hc] at h
    exact absurd h (by decide)
  have h1 : x ≠ ⊤ := fun e => absurd (le_max_left x (-x)) (by rw [not_le]; exact e ▸ h')
  have h2 : x ≠ ⊥ := fun e => by
    subst e
    rw [EReal.neg_bot] at h'
    exact absurd h' (by simp)
  exact ⟨x.toReal, (EReal.coe_toReal h1 h2).symm⟩

variable [Facts] {x0 : S2x8192x1024.Idx → EReal} {x1 x2 x3 x4 : S1024x1024.Idx → EReal} {x5 : S256x1024.Idx → EReal}
  {x6 : S256.Idx → EReal} {x7 : S1x256.Idx → EReal} {x8 : S1.Idx → EReal}

/-- Where the first array of `finite` is all ones, the tokens are real. -/
theorem tokens_real (h : (fn (F := Ideal) x0 x1 x2 x3 x4 x5 x6 x7 x8).1 = fun _ => 1#1) (i : S2x8192x1024.Idx) : IsReal (x0 i) :=
  real_of_lt _ (congrFun h i)

/-- Where the second is, the hidden layer's weights are real. -/
theorem hidden_weights_real (h : (fn (F := Ideal) x0 x1 x2 x3 x4 x5 x6 x7 x8).2.1 = fun _ => 1#1) (i : S256x1024.Idx) : IsReal (x5 i) :=
  real_of_lt _ (congrFun h i)

/-- Where the third is, the output's weights are real. -/
theorem output_weights_real (h : (fn (F := Ideal) x0 x1 x2 x3 x4 x5 x6 x7 x8).2.2.1 = fun _ => 1#1) (i : S1x256.Idx) : IsReal (x7 i) :=
  real_of_lt _ (congrFun h i)

/-- Where the fourth is, the output's bias is real. -/
theorem output_bias_real (h : (fn (F := Ideal) x0 x1 x2 x3 x4 x5 x6 x7 x8).2.2.2 = fun _ => 1#1) (i : S1.Idx) : IsReal (x8 i) :=
  real_of_lt _ (congrFun h i)

end Cert.Pre_finite

end
-- ==== Proof.RefAttention.lean ====
/- The reference's attention over the selected rows, and its result. -/
module

public import proofs.«01_k».proof.Proof.RefSelect
public import Idealize.ShloMosaic.Lib.Routing.OpsSet

@[expose] public section

set_option maxRecDepth 16384

noncomputable section

namespace Cert.ReferenceIdeal.Math

open Idealize.ShloMosaic Cert.ReferenceIdeal Cert.ReferenceIdeal.Read Cert.Spec Cert.Select
open Cert.KernelIdeal.Arrays (at2 at3 scores)

section
variable (x0 : S2x8192x1024.Idx → EReal) (x1 x2 x3 x4 : S1024x1024.Idx → EReal) (x5 : S256x1024.Idx → EReal) (x6 : S256.Idx → EReal) (x7 : S1x256.Idx → EReal) (x8 : S1.Idx → EReal)

/-- Feature `d` of head `h`, its number written the other way round. -/
theorem feat_eq (h : Fin 16) (d : Fin 64) (p : h.val * 64 + d.val < 1024) : (⟨h.val * 64 + d.val, p⟩ : Fin 1024) = feat h d :=
  Fin.ext (by show h.val * 64 + d.val = 64 * h.val + d.val; omega)

/-- The reference's attention logits, of its selected rows. -/
theorem logit_apply (b : Fin 2) (h : Fin 16) (q k : Fin 64) :
    val_main_v44 (F := Ideal) x0 x1 x2 x5 x6 x7 x8 (ix4 b h q k)
      = logit (at2 x1) (at2 x2) (fun q d => val_main_v28 (F := Ideal) x0 x5 x6 x7 x8 (ix3 b q d)) h q k := by
  pointwise [val_main_v44, val_main_v43, val_main_v42, val_main_v41, val_main_v36, val_main_v35, val_main_v34, val_main_v33,
    val_main_v32, val_main_v31, val_main_v30, val_main_v29, val_main_cst_4]
  rw [Consts.lit_eight, Ideal.div_coe (by norm_num)]
  simp only [feat_eq]
  rfl

/-- The reference's attention heads, before they are put side by side. -/
theorem head_apply (b : Fin 2) (h : Fin 16) (q d : Fin 64) :
    val_main_v56 (F := Ideal) x0 x1 x2 x3 x5 x6 x7 x8 (ix4 b h q d)
      = head (at2 x1) (at2 x2) (at2 x3) (fun q d => val_main_v28 (F := Ideal) x0 x5 x6 x7 x8 (ix3 b q d)) h q d := by
  pointwise [val_main_v56, val_main_v55, val_main_v54, val_main_v53, val_main_v52, val_main_v51, val_main_v50, val_main_v49,
    val_main_v48, val_main_v47, val_main_v46, val_main_v45, val_main_cst_5, val_main_cst_6, val_main_cst_7, val_main_v40,
    val_main_v39, val_main_v38, val_main_v37]
  simp only [feat_eq, logit_apply, Consts.lit_bot]
  rw [max_eq_right bot_le]
  rfl

/-- The reference's attention output, of its selected rows. -/
theorem att_apply (b : Fin 2) (q : Fin 64) (e : Fin 1024) :
    val_main_v60 (F := Ideal) x0 x1 x2 x3 x4 x5 x6 x7 x8 (ix3 b q e)
      = att (at2 x1) (at2 x2) (at2 x3) (at2 x4) (fun q d => val_main_v28 (F := Ideal) x0 x5 x6 x7 x8 (ix3 b q d)) q e := by
  pointwise [val_main_v60, val_main_v59, val_main_v58, val_main_v57]
  simp only [head_apply]
  rfl

/-- Every token of a selected group gets the group's attention output. -/
theorem update_apply (b : Fin 2) (q : Fin 64) (s : Fin 16) (e : Fin 1024) :
    val_main_v70 (F := Ideal) x0 x1 x2 x3 x4 x5 x6 x7 x8 (ix4 b q s e) = val_main_v60 (F := Ideal) x0 x1 x2 x3 x4 x5 x6 x7 x8 (ix3 b q e) := by
  pointwise [val_main_v70, val_main_v69]

end

/-! ## The scatter -/

/-- A small number's word, read as a signed integer, is that number. -/
theorem small_toInt (k : ℕ) (h : k < 2 ^ 31) : (BitVec.ofNat 32 k).toInt = (k : Int) := by
  rw [BitVec.toInt_eq_toNat_of_lt (by rw [BitVec.toNat_ofNat]; omega), BitVec.toNat_ofNat]
  exact congrArg Int.ofNat (Nat.mod_eq_of_lt (by omega))

/-- An update lands where its two words and its feature say. -/
theorem scatter_lands (idx : IVec S2x64x16x2 32) (b' : Fin 2) (q : Fin 64) (s : Fin 16) (e' : Fin 1024) (b : Fin 2) (t : Fin 8192)
    (e : Fin 1024) :
    scatter_S2x8192x1024_S2x64x16x2_S2x64x16x1024_3_01_01_3.resultIdx? (ix4 b' q s e') idx = some (ix3 b t e)
      ↔ (idx (ix4 b' q s 0)).toInt = (b.val : Int) ∧ (idx (ix4 b' q s 1)).toInt = (t.val : Int) ∧ e' = e := by
  have hsi : ∀ c : Fin 2, scatter_S2x8192x1024_S2x64x16x2_S2x64x16x1024_3_01_01_3.siIdx (ix4 b' q s e') c = ix4 b' q s c := fun c => by
    funext a
    match a with
    | ⟨0, _⟩ => rfl
    | ⟨1, _⟩ => rfl
    | ⟨2, _⟩ => rfl
    | ⟨3, _⟩ => rfl
  rw [Routing.resultIdx?_eq_some]
  have h0 : scatter_S2x8192x1024_S2x64x16x2_S2x64x16x1024_3_01_01_3.start (ix4 b' q s e') idx 0 = (idx (ix4 b' q s 0)).toInt :=
    congrArg (fun i => (idx i).toInt) (hsi 0)
  have h1 : scatter_S2x8192x1024_S2x64x16x2_S2x64x16x1024_3_01_01_3.start (ix4 b' q s e') idx 1 = (idx (ix4 b' q s 1)).toInt :=
    congrArg (fun i => (idx i).toInt) (hsi 1)
  have w0 : scatter_S2x8192x1024_S2x64x16x2_S2x64x16x1024_3_01_01_3.window (ix4 b' q s e') 0 = 0 := rfl
  have w1 : scatter_S2x8192x1024_S2x64x16x2_S2x64x16x1024_3_01_01_3.window (ix4 b' q s e') 1 = 0 := rfl
  have w2 : scatter_S2x8192x1024_S2x64x16x2_S2x64x16x1024_3_01_01_3.window (ix4 b' q s e') 2 = e'.val := rfl
  have h2 : scatter_S2x8192x1024_S2x64x16x2_S2x64x16x1024_3_01_01_3.start (ix4 b' q s e') idx 2 = 0 := rfl
  constructor
  · intro h
    have a0 := h 0
    have a1 := h 1
    have a2 := h 2
    rw [h0, w0] at a0
    rw [h1, w1] at a1
    rw [h2, w2] at a2
    refine ⟨?_, ?_, Fin.ext ?_⟩
    · exact (add_zero _).symm.trans a0
    · exact (add_zero _).symm.trans a1
    · exact Int.ofNat.inj ((zero_add _).symm.trans a2)
  · rintro ⟨a0, a1, rfl⟩ a
    match a with
    | ⟨0, _⟩ => exact (congrArg₂ (fun (u : Int) (v : ℕ) => u + (v : Int)) h0 w0).trans ((add_zero _).trans a0)
    | ⟨1, _⟩ => exact (congrArg₂ (fun (u : Int) (v : ℕ) => u + (v : Int)) h1 w1).trans ((add_zero _).trans a1)
    | ⟨2, _⟩ => exact (congrArg₂ (fun (u : Int) (v : ℕ) => u + (v : Int)) h2 w2).trans (zero_add _)

section
variable {x0 : S2x8192x1024.Idx → EReal} (x1 x2 x3 x4 : S1024x1024.Idx → EReal) {x5 : S256x1024.Idx → EReal} {x6 : S256.Idx → EReal}
  {x7 : S1x256.Idx → EReal} {x8 : S1.Idx → EReal}

/-- The first word of an update's address: its batch. -/
theorem word0_apply (b : Fin 2) (q : Fin 64) (s : Fin 16) :
    val_main_v87 (F := Ideal) x0 x5 x6 x7 x8 (ix4 b q s 0) = BitVec.ofNat 32 b.val := by
  pointwise [val_main_v87, val_main_v85, val_main_v84, val_main_v78, val_main_v77, val_main_v76, val_main_v75, val_main_v74,
    val_main_v72, val_main_v71, val_main_c_9, val_main_c_10]
  exact Routing.wrap_of_lt _ _ (by rw [BitVec.toNat_ofNat]; omega)

variable (h0 : ∀ i, IsReal (x0 i)) (h5 : ∀ i, IsReal (x5 i)) (h7 : ∀ i, IsReal (x7 i)) (h8 : ∀ i, IsReal (x8 i))
include h0 h5 h7 h8

/-- The second word of an update's address: its token. -/
theorem word1_apply (b : Fin 2) (q : Fin 64) (s : Fin 16) :
    val_main_v87 (F := Ideal) x0 x5 x6 x7 x8 (ix4 b q s 1) = BitVec.ofNat 32 ((ranked (scores x0 x5 x6 x7 b) q).val * 16 + s.val) := by
  pointwise [val_main_v87, val_main_v86, val_main_v83, val_main_v82, val_main_v81, val_main_v80, val_main_v79, val_main_v68,
    val_main_v67, val_main_v66, val_main_v65, val_main_v64, val_main_v63, val_main_v62, val_main_v61, val_main_c, val_main_c_11,
    val_main_c_12]
  rw [index_apply h0 h5 h7 h8]
  have hw : IntOp.addi (IntOp.muli (BitVec.ofNat 32 (ranked (scores x0 x5 x6 x7 b) q).val) 16#32) (BitVec.ofNat 32 s.val)
      = BitVec.ofNat 32 ((ranked (scores x0 x5 x6 x7 b) q).val * 16 + s.val) := by
    show BitVec.ofNat 32 _ * BitVec.ofNat 32 16 + BitVec.ofNat 32 _ = _
    rw [← BitVec.ofNat_mul, ← BitVec.ofNat_add]
  rw [hw]
  exact Routing.wrap_of_lt _ _ (by rw [BitVec.toNat_ofNat]; omega)

/-- Update `(b', q, s, e')` lands at `(b, t, e)` exactly when its batch and feature are those and its token is `t`. -/
theorem lands_iff (b' : Fin 2) (q : Fin 64) (s : Fin 16) (e' : Fin 1024) (b : Fin 2) (t : Fin 8192) (e : Fin 1024) :
    scatter_S2x8192x1024_S2x64x16x2_S2x64x16x1024_3_01_01_3.resultIdx? (ix4 b' q s e') (val_main_v87 (F := Ideal) x0 x5 x6 x7 x8)
      = some (ix3 b t e) ↔ b' = b ∧ (ranked (scores x0 x5 x6 x7 b') q).val * 16 + s.val = t.val ∧ e' = e := by
  rw [scatter_lands, word0_apply, word1_apply h0 h5 h7 h8, small_toInt _ (by omega), small_toInt _ (by omega), Fin.ext_iff (a := b')]
  omega

/-- The reference's result at a token of the group of rank `q`: row `q` of the attention over the groups in the order of rank. -/
theorem reference_ranked (b : Fin 2) (t : Fin 8192) (e : Fin 1024) (q : Fin 64)
    (h : Cert.KernelIdeal.Arrays.groupOf t = ranked (scores x0 x5 x6 x7 b) q) :
    val_main_v88 (F := Ideal) x0 x1 x2 x3 x4 x5 x6 x7 x8 (ix3 b t e)
      = att (at2 x1) (at2 x2) (at2 x3) (at2 x4) (fun q => mean (at3 x0) b (ranked (scores x0 x5 x6 x7 b) q)) q e := by
  have hg : t.val / 16 = (ranked (scores x0 x5 x6 x7 b) q).val := congrArg Fin.val h
  have hrows : (fun q d => val_main_v28 (F := Ideal) x0 x5 x6 x7 x8 (ix3 b q d)) = fun q => mean (at3 x0) b (ranked (scores x0 x5 x6 x7 b) q) :=
    funext fun q => funext fun d => sel_apply h0 h5 h7 h8 b q d
  unfold val_main_v88
  refine Routing.scatter_set_hit _ _ _ _ _ _ (fun k hk => ?_) (ix4 b q ⟨t.val % 16, Nat.mod_lt _ (by norm_num)⟩ e)
    ((lands_iff h0 h5 h7 h8 _ _ _ _ _ _ _).2 ⟨rfl, by show _ * 16 + t.val % 16 = _; omega, rfl⟩)
  change S2x64x16x1024.Idx at k
  idx_vars k
  obtain ⟨rfl, ht, rfl⟩ := (lands_iff h0 h5 h7 h8 _ _ _ _ _ _ _).1 hk
  have hq : k1 = q := by
    have h' : ranked (scores x0 x5 x6 x7 k0) k1 = ranked (scores x0 x5 x6 x7 k0) q := Fin.ext (by omega)
    have := congrArg (rank (scores x0 x5 x6 x7 k0)) h'
    rw [rank_ranked, rank_ranked] at this
    exact Fin.ext this
  rw [update_apply, att_apply, hrows, hq]

/-- The reference's result at a token of a group that is not among the first 64: 0. -/
theorem reference_other (b : Fin 2) (t : Fin 8192) (e : Fin 1024)
    (h : ∀ q, Cert.KernelIdeal.Arrays.groupOf t ≠ ranked (scores x0 x5 x6 x7 b) q) :
    val_main_v88 (F := Ideal) x0 x1 x2 x3 x4 x5 x6 x7 x8 (ix3 b t e) = 0 := by
  unfold val_main_v88
  rw [Routing.scatter_set_miss _ _ _ _ _ fun k hk => ?_]
  · pointwise [val_main_v73, val_main_cst_8]
  · change S2x64x16x1024.Idx at k
    idx_vars k
    obtain ⟨rfl, ht, rfl⟩ := (lands_iff h0 h5 h7 h8 _ _ _ _ _ _ _).1 hk
    exact h k1 (Fin.ext (by show t.val / 16 = _; omega))

/-- Kernel and reference agree at every index. -/
theorem result_agrees (i : S2x8192x1024.Idx) :
    val_main_v88 (F := Ideal) x0 x1 x2 x3 x4 x5 x6 x7 x8 i = Cert.KernelIdeal.Arrays.result x0 x1 x2 x3 x4 x5 x6 x7 i := by
  change S2x8192x1024.Idx at i
  idx_vars i
  by_cases h : ∃ q, Cert.KernelIdeal.Arrays.groupOf i1 = ranked (scores x0 x5 x6 x7 i0) q
  · obtain ⟨q, hq⟩ := h
    exact (reference_ranked x1 x2 x3 x4 h0 h5 h7 h8 i0 i1 i2 q hq).trans
      (Cert.KernelIdeal.Arrays.result_ranked x0 x1 x2 x3 x4 x5 x6 x7 i0 i1 i2 q hq).symm
  · have h' : ∀ q, Cert.KernelIdeal.Arrays.groupOf i1 ≠ ranked (scores x0 x5 x6 x7 i0) q := fun q hq => h ⟨q, hq⟩
    exact (reference_other x1 x2 x3 x4 h0 h5 h7 h8 i0 i1 i2 h').trans
      (Cert.KernelIdeal.Arrays.result_other x0 x1 x2 x3 x4 x5 x6 x7 i0 i1 i2 h').symm

end

end Cert.ReferenceIdeal.Math

end
-- ==== Proof.Algebraic.lean ====
/- The kernel and the reference end with the same array, given the precondition `finite`. -/
module

public import proofs.«01_k».proof.Defs
public import proofs.«01_k».proof.Proof.KernelValue
public import proofs.«01_k».proof.Proof.RefAttention
public import proofs.«01_k».proof.Proof.Finite
public import proofs.«01_k».proof.Proof.Gen.ReferenceIdeal.Run
public import proofs.«01_k».proof.Proof.Gen.ReferenceIdeal.Read
public import Idealize.ShloMosaic.Lib.Claim

@[expose] public section

set_option maxRecDepth 16384

noncomputable section

namespace Cert.Algebraic

open Idealize.ShloMosaic Idealize.SL.Sem

/-- The array the kernel returns on device `c`, as a function of the argument arrays the run starts with. -/
def returned (m : (ℓ : Loc Cert.KernelIdeal.nD Cert.KernelIdeal.τ Cert.KernelIdeal.sig) → Buf (Elt Ideal) ℓ) (c : Dev Cert.KernelIdeal.nD) :
    Cert.KernelIdeal.S2x8192x1024.Idx → EReal :=
  Cert.KernelIdeal.Arrays.result
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))

/-- The kernel and the reference, started on the same arguments with `finite` holding of them, both end, leave their
arguments as they were, and return the same array. -/
theorem kernel_eq_reference [Cert.KernelIdeal.Facts] [Cert.ReferenceIdeal.Facts] [Cert.Pre_finite.Facts] :
    Cert.algebraic_KernelIdeal_ReferenceIdeal_pre_finite := by
  intro m g m' g' hpre hagree
  refine ⟨returned m, ?_, ?_⟩
  · refine θ_run_mono (Cert.KernelIdeal.Gen.run_result m g) fun r hr c => ?_
    obtain ⟨hv, ha⟩ := hr.1 c
    exact ⟨hv.trans (Cert.KernelIdeal.Arrays.result_eq m g c),
      ha _ (by decide) (Cert.KernelIdeal.Gen.mem_uc Cert.KernelIdeal.main_arg0 (by decide)),
      ha _ (by decide) (Cert.KernelIdeal.Gen.mem_uc Cert.KernelIdeal.main_arg1 (by decide)),
      ha _ (by decide) (Cert.KernelIdeal.Gen.mem_uc Cert.KernelIdeal.main_arg2 (by decide)),
      ha _ (by decide) (Cert.KernelIdeal.Gen.mem_uc Cert.KernelIdeal.main_arg3 (by decide)),
      ha _ (by decide) (Cert.KernelIdeal.Gen.mem_uc Cert.KernelIdeal.main_arg4 (by decide)),
      ha _ (by decide) (Cert.KernelIdeal.Gen.mem_uc Cert.KernelIdeal.main_arg5 (by decide)),
      ha _ (by decide) (Cert.KernelIdeal.Gen.mem_uc Cert.KernelIdeal.main_arg6 (by decide)),
      ha _ (by decide) (Cert.KernelIdeal.Gen.mem_uc Cert.KernelIdeal.main_arg7 (by decide)),
      ha _ (by decide) (Cert.KernelIdeal.Gen.mem_uc Cert.KernelIdeal.main_arg8 (by decide))⟩
  · refine θ_run_mono (Cert.ReferenceIdeal.Value.run m' g') fun r hr c => ⟨?_, (hr c).2⟩
    refine (hr c).1.trans ((Cert.ReferenceIdeal.Read.val_main_v88_eq (F := Ideal) (fun b => m' (c, b))).trans ?_)
    obtain ⟨a0, a1, a2, a3, a4, a5, a6, a7, a8⟩ := hagree c
    have h := hpre c
    refine Eq.trans (congr (congr (congr (congr (congr (congr (congr (congr (congrArg
      (Cert.ReferenceIdeal.Read.val_main_v88 (F := Ideal)) a0) a1) a2) a3) a4) a5) a6) a7) a8) (funext fun i => ?_)
    exact Cert.ReferenceIdeal.Math.result_agrees _ _ _ _
      (Cert.Pre_finite.tokens_real h.1) (Cert.Pre_finite.hidden_weights_real h.2.1)
      (Cert.Pre_finite.output_weights_real h.2.2.1) (Cert.Pre_finite.output_bias_real h.2.2.2) i

end Cert.Algebraic

end
-- ==== Proof.lean ====
module

public import proofs.«01_k».proof.Proof.Gen.ReferenceIdeal.Run
public import proofs.«01_k».proof.Proof.Gen.ReferenceIdeal.Read
public import proofs.«01_k».proof.Defs
public import proofs.«01_k».proof.Proof.Finite
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The reference is host operations alone: it terminates, leaves its arguments as they were and every counter at
zero. -/
theorem frame_reference [Cert.ReferenceIdeal.Facts] : Cert.quiescent_ReferenceIdeal := by
  intro m g _
  exact θ_run_mono (Cert.ReferenceIdeal.Value.run m g) fun r h =>
    ⟨fun c => (h c).2, sem_eq_zero_of_no_sems (by decide) r.2⟩

/-- The certificate's claims. -/
theorem claim : Cert.Claim :=
  ⟨Cert.Kernel.Gen.facts, Cert.KernelIdeal.Gen.facts, Cert.ReferenceIdeal.Gen.facts, Cert.Pre_finite.facts,
    fun m g _ => Cert.Kernel.Gen.frame m g,
    fun m g _ => Cert.KernelIdeal.Gen.frame m g, fun m g _ => Cert.KernelIdeal.Gen.frame m g,
    frame_reference, fun m g _ => frame_reference m g trivial, trivial,
    @Cert.Algebraic.kernel_eq_reference Cert.KernelIdeal.Gen.facts Cert.ReferenceIdeal.Gen.facts Cert.Pre_finite.facts⟩

end Cert.Proof

end
